-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_seq" .f32 0x3D4CCCCD#32 ((20⁻¹ : ℝ) : EReal)

def algebraic_KernelIdeal_ReferenceIdeal [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal (hKernelIdeal := hKernelIdeal) (hReferenceIdeal := hReferenceIdeal) (hPre_tokens_in_vocab := hPre_tokens_in_vocab)
-- ==== Pre_tokens_in_vocab.lean ====
abbrev S16384x20 : Shape := ⟨2, ![16384, 20]⟩
abbrev S100000x128 : Shape := ⟨2, ![100000, 128]⟩
abbrev S1024x128 : Shape := ⟨2, ![1024, 128]⟩
abbrev S1024 : Shape := ⟨1, ![1024]⟩
abbrev S_ : Shape := ⟨0, ![]⟩

class Facts : Prop where
  bcast_S_S16384x20 : S_.BroadcastsInDim S16384x20 (![] : Fin 0 → Fin S16384x20.rank)
  reducesTo_S16384x20_S_d0_1 : S16384x20.ReducesTo [0, 1] S_
  h_S_ : 0 < S_.numel

variable [Facts]

def fn {F : FTy → Type} [FloatOps F] (main_arg0 : IVec S16384x20 32) (main_arg1 : FVec F S100000x128 .f32) (main_arg2 : FVec F S1024x128 .f32) (main_arg3 : FVec F S1024 .f32) : IVec S_ 1 :=
  let main_c : IVec S_ 32 := constantI S_ 32 0#32
  let main_v0 : IVec S16384x20 32 := broadcastInDim S16384x20 ![] bcast_S_S16384x20 main_c
  let main_v1 : IVec S16384x20 1 := cmpi .sge main_arg0 main_v0
  let main_c_0 : IVec S_ 32 := constantI S_ 32 100000#32
  let main_v2 : IVec S16384x20 32 := broadcastInDim S16384x20 ![] bcast_S_S16384x20 main_c_0
  let main_v3 : IVec S16384x20 1 := cmpi .slt main_arg0 main_v2
  let main_v4 : IVec S16384x20 1 := andi main_v1 main_v3
  let main_c_1 : IVec S_ 1 := constantI S_ 1 1#1
  let main_v5 : IVec S_ 1 := (fun x v => Host.reduce IntOp.andi x v reducesTo_S16384x20_S_d0_1 h_S_) main_v4 main_c_1
  main_v5
-- ==== Kernel.lean ====
abbrev S16384x20 : Shape := ⟨2, ![16384, 20]⟩
abbrev S100000x128 : Shape := ⟨2, ![100000, 128]⟩
abbrev S1024x128 : Shape := ⟨2, ![1024, 128]⟩
abbrev S1024 : Shape := ⟨1, ![1024]⟩
abbrev S32x128x80 : Shape := ⟨3, ![32, 128, 80]⟩
abbrev S16384x128 : Shape := ⟨2, ![16384, 128]⟩
abbrev S128x80 : Shape := ⟨2, ![128, 80]⟩
abbrev S4x80x128 : Shape := ⟨3, ![4, 80, 128]⟩
abbrev S512x128 : Shape := ⟨2, ![512, 128]⟩
abbrev S_ : Shape := ⟨0, ![]⟩
abbrev S1x128x80 : Shape := ⟨3, ![1, 128, 80]⟩
abbrev S1x80x128 : Shape := ⟨3, ![1, 80, 128]⟩
abbrev S80x128 : Shape := ⟨2, ![80, 128]⟩
abbrev S1x80 : Shape := ⟨2, ![1, 80]⟩
abbrev S80 : Shape := ⟨1, ![80]⟩
abbrev S1x16 : Shape := ⟨2, ![1, 16]⟩
abbrev S16 : Shape := ⟨1, ![16]⟩
abbrev S1x1024 : Shape := ⟨2, ![1, 1024]⟩
abbrev S16384x1024 : Shape := ⟨2, ![16384, 1024]⟩
abbrev S256x128 : Shape := ⟨2, ![256, 128]⟩
abbrev S256x1024 : Shape := ⟨2, ![256, 1024]⟩

abbrev nBuf : Table → Nat
  | .hbm => 8
  | .local .tc .vmem => 6
  | .local .scVector .vmem => 3
  | _ => 0

abbrev bufTy : (tb : Table) → Fin (nBuf tb) → BufTy
  | .hbm, ⟨0, _⟩ => ⟨S16384x20, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S32x128x80, .i32⟩
  | .hbm, ⟨5, _⟩ => ⟨S16384x128, .f32⟩
  | .hbm, ⟨6, _⟩ => ⟨S1x1024, .f32⟩
  | .hbm, ⟨7, _⟩ => ⟨S16384x1024, .f32⟩
  | .local .tc .vmem, ⟨0, _⟩ => ⟨S256x128, .f32⟩
  | .local .tc .vmem, ⟨1, _⟩ => ⟨S256x128, .f32⟩
  | .local .tc .vmem, ⟨2, _⟩ => ⟨S1024x128, .f32⟩
  | .local .tc .vmem, ⟨3, _⟩ => ⟨S1x1024, .f32⟩
  | .local .tc .vmem, ⟨4, _⟩ => ⟨S256x1024, .f32⟩
  | .local .tc .vmem, ⟨5, _⟩ => ⟨S256x1024, .f32⟩
  | .local .scVector .vmem, ⟨0, _⟩ => ⟨S128x80, .i32⟩
  | .local .scVector .vmem, ⟨1, _⟩ => ⟨S4x80x128, .f32⟩
  | .local .scVector .vmem, ⟨2, _⟩ => ⟨S512x128, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_29_r0 : BitVec 32 := 0#32
  let c0_i32_30_r0 : BitVec 32 := 0#32
  ![v1.toNat, 0, 0]
@[reducible] def k0_t1_loop : Scf.Loop 32 :=
  let c0_i32_26 : BitVec 32 := 0#32
  let c32_i32 : BitVec 32 := 32#32
  let v22 : BitVec 32 := Scalar.addi c0_i32_26 c32_i32
  let c1_i32_27 : BitVec 32 := 1#32
  ⟨c0_i32_26, v22, c1_i32_27⟩
def k0_off2 (k0_t1 : Fin k0_t1_loop.trips) (c0_i32_29 : BitVec 32) : Fin 2 → Nat :=
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let c0_i32_33 : BitVec 32 := 0#32
  ![v25.toNat, 0]
def k0_off3 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v985 : Index := Scalar.indexCast v32
  let c0_815 : Index := 0#32
  ![v985.toNat, 0]
def k0_off4 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v989 : Index := Scalar.indexCast v32
  let c16_816 : Index := 16#32
  ![v989.toNat, 16]
def k0_off5 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v993 : Index := Scalar.indexCast v32
  let c32_817 : Index := 32#32
  ![v993.toNat, 32]
def k0_off6 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v997 : Index := Scalar.indexCast v32
  let c48_818 : Index := 48#32
  ![v997.toNat, 48]
def k0_off7 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v1001 : Index := Scalar.indexCast v32
  let c64_819 : Index := 64#32
  ![v1001.toNat, 64]
def k0_off8 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v1005 : Index := Scalar.indexCast v32
  let c80_820 : Index := 80#32
  ![v1005.toNat, 80]
def k0_off9 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v1009 : Index := Scalar.indexCast v32
  let c96_821 : Index := 96#32
  ![v1009.toNat, 96]
def k0_off10 (k0_t1 : Fin k0_t1_loop.trips) (c0_i32_29 : BitVec 32) (c0_i32_37 : BitVec 32) : Fin 2 → Nat :=
  let c4_i32_36 : BitVec 32 := 4#32
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let v25 : BitVec 32 := Scalar.addi v24 c0_i32_29
  let v31 : BitVec 32 := Scalar.muli c4_i32_36 v25
  let v32 : BitVec 32 := Scalar.addi v31 c0_i32_37
  let v1013 : Index := Scalar.indexCast v32
  let c112_822 : Index := 112#32
  ![v1013.toNat, 112]
def k0_cond1 (k0_t1 : Fin k0_t1_loop.trips) : BitVec 1 :=
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let c0_i32_29 : BitVec 32 := 0#32
  let v25 : BitVec 32 := Scalar.addi v24 c0_i32_29
  let c4_i32_3194 : BitVec 32 := 4#32
  let v3975 : BitVec 32 := Scalar.addi v25 c4_i32_3194
  let c128_i32 : BitVec 32 := 128#32
  let v3976 : BitVec 1 := Scalar.cmpi .slt v3975 c128_i32
  let v3977 : BitVec 32 := Scalar.extui v3976
  let c0_i32_3196 : BitVec 32 := 0#32
  let v3978 : BitVec 1 := Scalar.cmpi .ne v3977 c0_i32_3196
  v3978

def k0_off11 (k0_t1 : Fin k0_t1_loop.trips) : Fin 2 → Nat :=
  let c4_i32 : BitVec 32 := 4#32
  let c0_i32_26 : BitVec 32 := 0#32
  let c1_i32_27 : BitVec 32 := 1#32
  let arg12 : BitVec 32 := Scf.iv c0_i32_26 c1_i32_27 k0_t1
  let v24 : BitVec 32 := Scalar.muli c4_i32 arg12
  let c0_i32_29 : BitVec 32 := 0#32
  let v25 : BitVec 32 := Scalar.addi v24 c0_i32_29
  let c4_i32_12953 : BitVec 32 := 4#32
  let v15844 : BitVec 32 := Scalar.addi v25 c4_i32_12953
  let c0_i32_12956 : BitVec 32 := 0#32
  ![v15844.toNat, 0]
def k0_cond2 (k0_t1 : Fin k0_t1_loop.trips) : BitVec 1 :=
  let c4_i32_3197 : BitVec 32 := 4#32
  let c0_i32_26 : BitVec 32 := 0#32
  let c1_i32_27 : BitVec 32 := 1#32
  let arg12 : BitVec 32 := Scf.iv c0_i32_26 c1_i32_27 k0_t1
  let v3979 : BitVec 32 := Scalar.muli c4_i32_3197 arg12
  let c1_i32_3198 : BitVec 32 := 1#32
  let v3980 : BitVec 32 := Scalar.addi v3979 c1_i32_3198
  let c4_i32_6445 : BitVec 32 := 4#32
  let v7930 : BitVec 32 := Scalar.addi v3980 c4_i32_6445
  let c128_i32_6446 : BitVec 32 := 128#32
  let v7931 : BitVec 1 := Scalar.cmpi .slt v7930 c128_i32_6446
  let v7932 : BitVec 32 := Scalar.extui v7931
  let c0_i32_6448 : BitVec 32 := 0#32
  let v7933 : BitVec 1 := Scalar.cmpi .ne v7932 c0_i32_6448
  v7933

def k0_off12 (k0_t1 : Fin k0_t1_loop.trips) : Fin 2 → Nat :=
  let c4_i32_3197 : BitVec 32 := 4#32
  let c0_i32_26 : BitVec 32 := 0#32
  let c1_i32_27 : BitVec 32 := 1#32
  let arg12 : BitVec 32 := Scf.iv c0_i32_26 c1_i32_27 k0_t1
  let v3979 : BitVec 32 := Scalar.muli c4_i32_3197 arg12
  let c1_i32_3198 : BitVec 32 := 1#32
  let v3980 : BitVec 32 := Scalar.addi v3979 c1_i32_3198
  let c4_i32_12953 : BitVec 32 := 4#32
  let v15844 : BitVec 32 := Scalar.addi v3980 c4_i32_12953
  let c0_i32_12956 : BitVec 32 := 0#32
  ![v15844.toNat, 0]
def k0_cond3 (k0_t1 : Fin k0_t1_loop.trips) : BitVec 1 :=
  let c4_i32_6449 : BitVec 32 := 4#32
  let c0_i32_26 : BitVec 32 := 0#32
  let c1_i32_27 : BitVec 32 := 1#32
  let arg12 : BitVec 32 := Scf.iv c0_i32_26 c1_i32_27 k0_t1
  let v7934 : BitVec 32 := Scalar.muli c4_i32_6449 arg12
  let c2_i32_6450 : BitVec 32 := 2#32
  let v7935 : BitVec 32 := Scalar.addi v7934 c2_i32_6450
  let c4_i32_9697 : BitVec 32 := 4#32
  let v11885 : BitVec 32 := Scalar.addi v7935 c4_i32_9697
  let c128_i32_9698 : BitVec 32 := 128#32
  let v11886 : BitVec 1 := Scalar.cmpi .slt v11885 c128_i32_9698
  let v11887 : BitVec 32 := Scalar.extui v11886
  let c0_i32_9700 : BitVec 32 := 0#32
  let v11888 : BitVec 1 := Scalar.cmpi .ne v11887 c0_i32_9700
  v11888

def k0_off13 (k0_t1 : Fin k0_t1_loop.trips) : Fin 2 → Nat :=
  let c4_i32_6449 : BitVec 32 := 4#32
  let c0_i32_26 : BitVec 32 := 0#32
  let c1_i32_27 : BitVec 32 := 1#32
  let arg12 : BitVec 32 := Scf.iv c0_i32_26 c1_i32_27 k0_t1
  let v7934 : BitVec 32 := Scalar.muli c4_i32_6449 arg12
  let c2_i32_6450 : BitVec 32 := 2#32
  let v7935 : BitVec 32 := Scalar.addi v7934 c2_i32_6450
  let c4_i32_12953 : BitVec 32 := 4#32
  let v15844 : BitVec 32 := Scalar.addi v7935 c4_i32_12953
  let c0_i32_12956 : BitVec 32 := 0#32
  ![v15844.toNat, 0]
def k0_cond4 (k0_t1 : Fin k0_t1_loop.trips) : BitVec 1 :=
  let c4_i32_9701 : BitVec 32 := 4#32
  let c0_i32_26 : BitVec 32 := 0#32
  let c1_i32_27 : BitVec 32 := 1#32
  let arg12 : BitVec 32 := Scf.iv c0_i32_26 c1_i32_27 k0_t1
  let v11889 : BitVec 32 := Scalar.muli c4_i32_9701 arg12
  let c3_i32_9702 : BitVec 32 := 3#32
  let v11890 : BitVec 32 := Scalar.addi v11889 c3_i32_9702
  let c4_i32_12949 : BitVec 32 := 4#32
  let v15840 : BitVec 32 := Scalar.addi v11890 c4_i32_12949
  let c128_i32_12950 : BitVec 32 := 128#32
  let v15841 : BitVec 1 := Scalar.cmpi .slt v15840 c128_i32_12950
  let v15842 : BitVec 32 := Scalar.extui v15841
  let c0_i32_12952 : BitVec 32 := 0#32
  let v15843 : BitVec 1 := Scalar.cmpi .ne v15842 c0_i32_12952
  v15843

def k0_off14 (k0_t1 : Fin k0_t1_loop.trips) : Fin 2 → Nat :=
  let c4_i32_9701 : BitVec 32 := 4#32
  let c0_i32_26 : BitVec 32 := 0#32
  let c1_i32_27 : BitVec 32 := 1#32
  let arg12 : BitVec 32 := Scf.iv c0_i32_26 c1_i32_27 k0_t1
  let v11889 : BitVec 32 := Scalar.muli c4_i32_9701 arg12
  let c3_i32_9702 : BitVec 32 := 3#32
  let v11890 : BitVec 32 := Scalar.addi v11889 c3_i32_9702
  let c4_i32_12953 : BitVec 32 := 4#32
  let v15844 : BitVec 32 := Scalar.addi v11890 c4_i32_12953
  let c0_i32_12956 : BitVec 32 := 0#32
  ![v15844.toNat, 0]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v23 : BitVec 32 := Scalar.muli v1 c512_i32
  let c0_i32_29_r1 : BitVec 32 := 0#32
  ![v23.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_seq" => some ((20⁻¹ : ℝ) : EReal)
  | _ => none
-- ==== ReferenceIdeal.lean ====
abbrev S16384x20 : Shape := ⟨2, ![16384, 20]⟩
abbrev S100000x128 : Shape := ⟨2, ![100000, 128]⟩
abbrev S1024x128 : Shape := ⟨2, ![1024, 128]⟩
abbrev S1024 : Shape := ⟨1, ![1024]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S16384x128 : Shape := ⟨2, ![16384, 128]⟩
abbrev S128x1024 : Shape := ⟨2, ![128, 1024]⟩
abbrev S16384x1024 : Shape := ⟨2, ![16384, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S100000x128, .f32⟩
  | .hbm, ⟨2, _⟩ => ⟨S1024x128, .f32⟩
  | .hbm, ⟨3, _⟩ => ⟨S1024, .f32⟩
  | .hbm, ⟨4, _⟩ => ⟨S_, .i32⟩
  | .hbm, ⟨5, _⟩ => ⟨S16384x20, .i32⟩
  | .hbm, ⟨6, _⟩ => ⟨S16384x20, .i1⟩
  | .hbm, ⟨7, _⟩ => ⟨S_, .i32⟩
  | .hbm, ⟨8, _⟩ => ⟨S16384x20, .i32⟩
  | .hbm, ⟨9, _⟩ => ⟨S16384x20, .i32⟩
  | .hbm, ⟨10, _⟩ => ⟨S16384x20, .i32⟩
  | .hbm, ⟨11, _⟩ => ⟨S16384x20x1, .i32⟩
  | .hbm, ⟨12, _⟩ => ⟨S1, .i32⟩
  | .hbm, ⟨13, _⟩ => ⟨S_, .i32⟩
  | .hbm, ⟨14, _⟩ => ⟨S16384x20x1, .i32⟩
  | .hbm, ⟨15, _⟩ => ⟨S16384x20x1, .i1⟩
  | .hbm, ⟨16, _⟩ => ⟨S1x1x1, .i32⟩
  | .hbm, ⟨17, _⟩ => ⟨S16384x20x1, .i32⟩
  | .hbm, ⟨18, _⟩ => ⟨S16384x20x1, .i1⟩
  | .hbm, ⟨19, _⟩ => ⟨S16384x20x1, .i1⟩
  | .hbm, ⟨20, _⟩ => ⟨S_, .i1⟩
  | .hbm, ⟨21, _⟩ => ⟨S16384x20, .i1⟩
  | .hbm, ⟨22, _⟩ => ⟨S16384x20x128, .f32⟩
  | .hbm, ⟨23, _⟩ => ⟨S16384x20x128, .i1⟩
  | .hbm, ⟨24, _⟩ => ⟨S_, .f32⟩
  | .hbm, ⟨25, _⟩ => ⟨S16384x20x128, .f32⟩
  | .hbm, ⟨26, _⟩ => ⟨S16384x20x128, .f32⟩
  | .hbm, ⟨27, _⟩ => ⟨S_, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S128x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.Flat.lean ====
/-
  The trip of the tile's loop as one flat chain: the parts that hold a wait or the issue of a gather are opened, so
  that the chain can be cut at the chunks' edges.
-/
module

public import proofs.«01_k».proof.Proof.Gen.Kernel.Skeleton
public import Idealize.ShloMosaic.Lib.Tactic
public import Idealize.ShloMosaic.Lib.Tactic.OpenCalls
public import Idealize.ShloMosaic.Lib.Tactic.Stretches

@[expose] public section

noncomputable section

namespace Cert.Proof.Tile

open Cert.Kernel Cert.Kernel.Gen
open Idealize.ShloMosaic Idealize.ShloMosaic.Tactic
open Idealize.SL Idealize.SL.Sem

set_option open_calls.check false in
set_option maxHeartbeats 4000000 in
set_option maxRecDepth 65536 in
open_calls flat := Cert.Kernel.Gen.k0_t1_body [k0_part483, k0_part485, k0_part487, k0_part489, k0_part1, k0_part121, k0_part242, k0_part363]

end Cert.Proof.Tile

end
-- ==== Proof.Cut.lean ====
/-
  The trip of the tile's loop cut at the chunks' edges: for each of the four chunks the wait for its gathered rows
  and the accumulation of its four pooled rows; the issue of the chunk's next gather stands with the next chunk's wait.
-/
module

public import proofs.«01_k».proof.Proof.Flat

@[expose] public section

noncomputable section

namespace Cert.Proof.Tile

open Cert.Kernel Cert.Kernel.Gen
open Idealize.ShloMosaic Idealize.ShloMosaic.Tactic
open Idealize.SL Idealize.SL.Sem

set_option maxHeartbeats 4000000 in
set_option maxRecDepth 65536 in
cut_chain seg := Cert.Proof.Tile.flat at 2, 77, 79, 145, 147, 209, 211, 286

end Cert.Proof.Tile

end
-- ==== Proof.Common.lean ====
/-
  The setting of the tile's proof: the launch the program is, the resource algebra, the tile's memrefs.
-/
module

public import proofs.«01_k».proof.Proof.Cut
public import proofs.«01_k».proof.Proof.Gen.Kernel
public import Idealize.ShloMosaic.Lib.SparseCore.Quiescent
public import Idealize.ShloMosaic.Lib.SparseCore.Ops
public import Idealize.ShloMosaic.Lib.SparseCore.Stream
public import Idealize.ShloMosaic.Lib.Pipeline.Kit

@[expose] public section

noncomputable section

namespace Cert.Proof.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none

/-- The resource algebra: the launch's handshakes, the pallas_call's pipeline, the transfers' counters. -/
abbrev UH : Type := URounds (GSem nD τ sig) ℕ
abbrev UP : Type := URounds (GSem nD τ sig) Unit
abbrev UU : Type := UH × (UP × Counters)

abbrev cV (L : grid0.Coords) : Fin τ.nSC := (L 0).castLE hcore0
abbrev jV (L : grid0.Coords) : Fin τ.nSub := (L 1).castLE hsub0
/-- The thread of the tile at `L` on device `d`. -/
abbrev tV (d : Dev nD) (L : grid0.Coords) : Thread nD τ := V d (cV L) (jV L)

/-- The tile's list of row numbers, its four slices of gathered rows, its pooled rows, and the operands in HBM. -/
abbrev idxM : Memref sig .scVector .vmem S128x80 .i32 := Memref.whole cc0_scratch0
abbrev rowsM : Memref sig .scVector .vmem S4x80x128 .f32 := Memref.whole cc0_scratch1
abbrev poolM : Memref sig .scVector .vmem S512x128 .f32 := Memref.whole cc0_scratch2
abbrev textM : Memref sig .scVector .hbm S32x128x80 .i32 := Memref.whole main_v0_scv
abbrev tabM : Memref sig .scVector .hbm S100000x128 .f32 := Memref.whole main_arg1_scv
abbrev outM : Memref sig .scVector .hbm S16384x128 .f32 := Memref.whole main_v1_scv

/-- Slice `p` of the gathered rows, squeezed: where chunk `p` of a trip lands. -/
abbrev slot (p : ℕ) (h : ∀ a, (![p, 0, 0] : Fin 3 → ℕ) a + S1x80x128.size a ≤ S4x80x128.size a) : Memref sig .scVector .vmem S80x128 .f32 :=
  (rowsM.slice (Rect.unit (s := S4x80x128) ![p, 0, 0] S1x80x128.size h) (fun _ => rfl)).squeeze S80x128 squeezes_S1x80x128_S80x128

abbrev slot0 := slot 0 inb_S4x80x128_S1x80x128_0_0_0
abbrev slot1 := slot 1 inb_S4x80x128_S1x80x128_1_0_0
abbrev slot2 := slot 2 inb_S4x80x128_S1x80x128_2_0_0
abbrev slot3 := slot 3 inb_S4x80x128_S1x80x128_3_0_0

end Cert.Proof.Tile

end
-- ==== Proof.Acc.lean ====
/-
  The accumulation of one chunk: from a slot's 80 gathered rows, each of the chunk's four pooled rows is the sum of
  its 20 rows, 16 lanes at a time. `accK` runs stretch K's code; `accK_eq` says that what it leaves is ONE list of
  32 stores (`pieces`), the same for the four slots but for the slot and the rows' place.
-/
module

public import proofs.«01_k».proof.Proof.Common

@[expose] public section

noncomputable section

namespace Cert.Proof.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-! ## The stores of a chunk, as one list -/

theorem row_inb (q : Fin 4) (l : Fin 20) (e : Fin 8) :
    ∀ a, (![20 * q.val + l.val, 16 * e.val] : Fin 2 → ℕ) a + S1x16.size a ≤ S80x128.size a := by
  intro a
  match a with
  | 0 => show 20 * q.val + l.val + 1 ≤ 80; omega
  | 1 => show 16 * e.val + 16 ≤ 128; omega

/-- 16 lanes of row `20 q + l` of a slot. -/
def rowVec (v : View sig .scVector .vmem S80x128 .f32) (f : v.ty.Contents (Elt F)) (q : Fin 4) (l : Fin 20) (e : Fin 8) : FVec F S16 .f32 :=
  shapeCast S16 (v.readAt (Elt F) (Rect.unit (s := S80x128) ![20 * q.val + l.val, 16 * e.val] S1x16.size (row_inb q l e)).toLoadRect f) shapeCasts_S1x16_S16

/-- The sum of the first `n + 1` rows of pooled row `q`, from the left. -/
def segSum (v : View sig .scVector .vmem S80x128 .f32) (f : v.ty.Contents (Elt F)) (q : Fin 4) (e : Fin 8) : (n : ℕ) → n < 20 → FVec F S16 .f32
  | 0, h => rowVec v f q ⟨0, h⟩ e
  | n + 1, h => addf (segSum v f q e n (by omega)) (rowVec v f q ⟨n + 1, h⟩ e)

/-- Where lane group `e` of pooled row `(r₁, r₂)` of trip `t` starts. -/
def offD (t : Fin k0_t1_loop.trips) (r₁ r₂ : BitVec 32) : Fin 8 → Fin 2 → ℕ
  | 0 => k0_off3 t r₁ r₂
  | 1 => k0_off4 t r₁ r₂
  | 2 => k0_off5 t r₁ r₂
  | 3 => k0_off6 t r₁ r₂
  | 4 => k0_off7 t r₁ r₂
  | 5 => k0_off8 t r₁ r₂
  | 6 => k0_off9 t r₁ r₂
  | 7 => k0_off10 t r₁ r₂

theorem offD_eq (t : Fin k0_t1_loop.trips) (p q : Fin 4) (e : Fin 8) :
    offD t (BitVec.ofNat 32 p.val) (BitVec.ofNat 32 q.val) e = ![16 * t.val + 4 * p.val + q.val, 16 * e.val] := by
  match e with
  | 0 => exact k0_off3_eq t p q
  | 1 => exact k0_off4_eq t p q
  | 2 => exact k0_off5_eq t p q
  | 3 => exact k0_off6_eq t p q
  | 4 => exact k0_off7_eq t p q
  | 5 => exact k0_off8_eq t p q
  | 6 => exact k0_off9_eq t p q
  | 7 => exact k0_off10_eq t p q

theorem trips_eq : k0_t1_loop.trips = 32 := by decide +kernel

theorem offD_inb (t : Fin k0_t1_loop.trips) (p q : Fin 4) (e : Fin 8) :
    ∀ a, offD t (BitVec.ofNat 32 p.val) (BitVec.ofNat 32 q.val) e a + S1x16.size a ≤ S512x128.size a := by
  have ht : t.val < 32 := lt_of_lt_of_eq t.isLt trips_eq
  rw [offD_eq]
  intro a
  match a with
  | 0 => show 16 * t.val + 4 * p.val + q.val + 1 ≤ 512; omega
  | 1 => show 16 * e.val + 16 ≤ 128; omega

/-- One store: lane group `e` of pooled row `q` of chunk `p`. -/
def piece (v : View sig .scVector .vmem S80x128 .f32) (f : v.ty.Contents (Elt F)) (t : Fin k0_t1_loop.trips) (p q : Fin 4) (e : Fin 8) :
    View.Piece (Elt F) S512x128 .f32 :=
  ⟨Rect.unit (s := S512x128) (offD t (BitVec.ofNat 32 p.val) (BitVec.ofNat 32 q.val) e) S1x16.size (offD_inb t p q e),
    shapeCast S1x16 (segSum v f q e 19 (by decide)) shapeCasts_S16_S1x16⟩

/-- The 32 stores of chunk `p`, the last first. -/
def pieces (v : View sig .scVector .vmem S80x128 .f32) (f : v.ty.Contents (Elt F)) (t : Fin k0_t1_loop.trips) (p : Fin 4) :
    List (View.Piece (Elt F) S512x128 .f32) :=
  ([3, 2, 1, 0] : List (Fin 4)).flatMap fun q => ([7, 6, 5, 4, 3, 2, 1, 0] : List (Fin 8)).map fun e => piece v f t p q e

/-! ## The run of each stretch -/

/-- Stretch `s` turns the pooled rows `fp` into `W`, reading the slot `v` at `fr`. -/
abbrev AccSpec (Dv : Defs nD τ sig (Elt F) Λ₀) (d : Dev nD) (L : grid0.Coords) (v : View sig .scVector .vmem S80x128 .f32) (fr : Buf (Elt F) (v.loc (tV d L)))
    (fp W : Buf (Elt F) (poolM.view.loc (tV d L)))
    (s : ∀ {R : Type}, Prog (TpuEff nD τ sig (Elt F) Λ₀ (.scVector ((L 0).castLE hcore0) ((L 1).castLE hsub0))) R →
      Prog (TpuEff nD τ sig (Elt F) Λ₀ (.scVector ((L 0).castLE hcore0) ((L 1).castLE hsub0))) R) : Prop :=
  ∀ {R : Type} (κ : Prog (TpuEff nD τ sig (Elt F) Λ₀ (.scVector ((L 0).castLE hcore0) ((L 1).castLE hsub0))) R) (Q : R → sProp 𝕄),
    iprop((v.loc (tV d L) ↦[v.set]{fullShare} fr) ∗ (poolM.view.loc (tV d L) ↦{fullShare} fp)
      ∗ (((v.loc (tV d L) ↦[v.set]{fullShare} fr) ∗ (poolM.view.loc (tV d L) ↦{fullShare} W)) -∗
          wp frame (wpE Dv 𝒱₀ (tV d L) none) Set.univ κ Q))
    ⊢ wp frame (wpE Dv 𝒱₀ (tV d L) none) Set.univ (s κ) Q

set_option sl_exec.partsLeafInline true in
/-- Chunk 0: what the stretch leaves in the pooled rows, with its run. -/
def acc0 (Dv : Defs nD τ sig (Elt F) Λ₀) (d : Dev nD) (L : grid0.Coords) (t : Fin k0_t1_loop.trips)
    (fr : Buf (Elt F) (slot0.view.loc (tV d L))) (fp : Buf (Elt F) (poolM.view.loc (tV d L))) :
    { W : Buf (Elt F) (poolM.view.loc (tV d L)) // AccSpec Dv d L slot0.view fr fp W
        (seg2 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) } := by
  refine ⟨?_, fun κ Q => ?run⟩
  case run =>
    iintro ⟨Hr, Hp, Hκ⟩
    unfold seg2
    sl_exec_parts!
    iapply Hκ
    isplitl [Hr]; · iexact Hr
    iexact Hp

theorem acc0_eq (Dv : Defs nD τ sig (Elt F) Λ₀) (d : Dev nD) (L : grid0.Coords) (t : Fin k0_t1_loop.trips)
    (fr : Buf (Elt F) (slot0.view.loc (tV d L))) (fp : Buf (Elt F) (poolM.view.loc (tV d L))) :
    (acc0 Dv d L t fr fp).1 = poolM.view.writes (Elt F) fp (pieces slot0.view fr t 0) := by
  rfl

set_option sl_exec.partsLeafInline true in
/-- Chunk 1: what the stretch leaves in the pooled rows, with its run. -/
def acc1 (Dv : Defs nD τ sig (Elt F) Λ₀) (d : Dev nD) (L : grid0.Coords) (t : Fin k0_t1_loop.trips)
    (fr : Buf (Elt F) (slot1.view.loc (tV d L))) (fp : Buf (Elt F) (poolM.view.loc (tV d L))) :
    { W : Buf (Elt F) (poolM.view.loc (tV d L)) // AccSpec Dv d L slot1.view fr fp W
        (seg4 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) } := by
  refine ⟨?_, fun κ Q => ?run⟩
  case run =>
    iintro ⟨Hr, Hp, Hκ⟩
    unfold seg4
    sl_exec_parts!
    iapply Hκ
    isplitl [Hr]; · iexact Hr
    iexact Hp

theorem acc1_eq (Dv : Defs nD τ sig (Elt F) Λ₀) (d : Dev nD) (L : grid0.Coords) (t : Fin k0_t1_loop.trips)
    (fr : Buf (Elt F) (slot1.view.loc (tV d L))) (fp : Buf (Elt F) (poolM.view.loc (tV d L))) :
    (acc1 Dv d L t fr fp).1 = poolM.view.writes (Elt F) fp (pieces slot1.view fr t 1) := by
  rfl

set_option sl_exec.partsLeafInline true in
/-- Chunk 2: what the stretch leaves in the pooled rows, with its run. -/
def acc2 (Dv : Defs nD τ sig (Elt F) Λ₀) (d : Dev nD) (L : grid0.Coords) (t : Fin k0_t1_loop.trips)
    (fr : Buf (Elt F) (slot2.view.loc (tV d L))) (fp : Buf (Elt F) (poolM.view.loc (tV d L))) :
    { W : Buf (Elt F) (poolM.view.loc (tV d L)) // AccSpec Dv d L slot2.view fr fp W
        (seg6 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) } := by
  refine ⟨?_, fun κ Q => ?run⟩
  case run =>
    iintro ⟨Hr, Hp, Hκ⟩
    unfold seg6
    sl_exec_parts!
    iapply Hκ
    isplitl [Hr]; · iexact Hr
    iexact Hp

theorem acc2_eq (Dv : Defs nD τ sig (Elt F) Λ₀) (d : Dev nD) (L : grid0.Coords) (t : Fin k0_t1_loop.trips)
    (fr : Buf (Elt F) (slot2.view.loc (tV d L))) (fp : Buf (Elt F) (poolM.view.loc (tV d L))) :
    (acc2 Dv d L t fr fp).1 = poolM.view.writes (Elt F) fp (pieces slot2.view fr t 2) := by
  rfl

set_option sl_exec.partsLeafInline true in
/-- Chunk 3: what the stretch leaves in the pooled rows, with its run. -/
def acc3 (Dv : Defs nD τ sig (Elt F) Λ₀) (d : Dev nD) (L : grid0.Coords) (t : Fin k0_t1_loop.trips)
    (fr : Buf (Elt F) (slot3.view.loc (tV d L))) (fp : Buf (Elt F) (poolM.view.loc (tV d L))) :
    { W : Buf (Elt F) (poolM.view.loc (tV d L)) // AccSpec Dv d L slot3.view fr fp W
        (seg8 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) } := by
  refine ⟨?_, fun κ Q => ?run⟩
  case run =>
    iintro ⟨Hr, Hp, Hκ⟩
    unfold seg8
    sl_exec_parts!
    iapply Hκ
    isplitl [Hr]; · iexact Hr
    iexact Hp

theorem acc3_eq (Dv : Defs nD τ sig (Elt F) Λ₀) (d : Dev nD) (L : grid0.Coords) (t : Fin k0_t1_loop.trips)
    (fr : Buf (Elt F) (slot3.view.loc (tV d L))) (fp : Buf (Elt F) (poolM.view.loc (tV d L))) :
    (acc3 Dv d L t fr fp).1 = poolM.view.writes (Elt F) fp (pieces slot3.view fr t 3) := by
  rfl

end Cert.Proof.Tile

end
-- ==== Proof.Sum20.lean ====
/-
  The sum of twenty values from the left, as the tile accumulates it.
-/
module

public import Idealize.ShloMosaic.PureOps

@[expose] public section

namespace Cert.Proof

open Idealize.ShloMosaic

/-- `g 0 + g 1 + … + g n`, from the left. -/
def sum20 {F : FTy → Type} [FloatOps F] (g : Fin 20 → F .f32) : (n : ℕ) → n < 20 → F .f32
  | 0, h => g ⟨0, h⟩
  | n + 1, h => FloatOps.addf (sum20 g n (by omega)) (g ⟨n + 1, h⟩)

end Cert.Proof
-- ==== Proof.AccValue.lean ====
/-
  What a chunk's 32 stores leave: the chunk's four pooled rows hold the sums of their twenty rows, the others what they held.
-/
module

public import proofs.«01_k».proof.Proof.Acc
public import proofs.«01_k».proof.Proof.Sum20
public import Idealize.ShloMosaic.Lib.Pipeline.Value

@[expose] public section

noncomputable section

namespace Cert.Proof.Tile

open Cert.Kernel Cert.Kernel.Gen
open Idealize.ShloMosaic

variable {F : FTy → Type} [FloatOps F]

/-- Row `20 q + l` and lane `c` of a slot. -/
def slotIx (q : Fin 4) (l : Fin 20) (c : Fin 128) : S80x128.Idx := fun
  | 0 => (⟨20 * q.val + l.val, by omega⟩ : Fin 80)
  | 1 => c

/-- The pooled rows `fp` with rows `16 t + 4 p + q` replaced by the sums of the slot's rows `20 q + l`. -/
def accAt (fp : S512x128.Idx → F .f32) (G : S80x128.Idx → F .f32) (t : ℕ) (p : Fin 4) : S512x128.Idx → F .f32 := fun y =>
  if h : 16 * t + 4 * p.val ≤ (y 0).val ∧ (y 0).val < 16 * t + 4 * p.val + 4 then
    sum20 (fun l => G (slotIx ⟨(y 0).val - (16 * t + 4 * p.val), by omega⟩ l (y 1))) 19 (by decide)
  else fp y

theorem segSum_apply (v : View sig .scVector .vmem S80x128 .f32) (f : v.ty.Contents (Elt F)) (q : Fin 4) (e : Fin 8) (x : S1x16.Idx) :
    ∀ (n : ℕ) (h : n < 20), shapeCast S1x16 (segSum v f q e n h) shapeCasts_S16_S1x16 x
      = sum20 (fun l => v.readAt (Elt F) (Rect.unit (s := S80x128) ![20 * q.val + l.val, 16 * e.val] S1x16.size (row_inb q l e)).toLoadRect f x) n h
  | 0, h => congrFun (shapeCast_shapeCast _ _ _) x
  | n + 1, h => by
    show FloatOps.addf (shapeCast S1x16 (segSum v f q e n _) shapeCasts_S16_S1x16 x) (shapeCast S1x16 (rowVec v f q ⟨n + 1, h⟩ e) shapeCasts_S16_S1x16 x) = _
    rw [segSum_apply v f q e x n (by omega)]
    exact congrArg _ (congrFun (shapeCast_shapeCast _ _ _) x)

theorem readAt_row (v : View sig .scVector .vmem S80x128 .f32) (f : v.ty.Contents (Elt F)) (q : Fin 4) (l : Fin 20) (e : Fin 8) (x : S1x16.Idx)
    (c : Fin 128) (hc : c.val = 16 * e.val + (x 1).val) :
    v.readAt (Elt F) (Rect.unit (s := S80x128) ![20 * q.val + l.val, 16 * e.val] S1x16.size (row_inb q l e)).toLoadRect f x
      = v.read (Elt F) f (slotIx q l c) := by
  show v.read (Elt F) f ((Rect.unit (s := S80x128) ![20 * q.val + l.val, 16 * e.val] S1x16.size (row_inb q l e)).emb x) = _
  congr 1
  funext a
  have h0 : (x 0).val = 0 := by have : (x 0).val < 1 := (x 0).isLt; omega
  match a with
  | 0 => exact Fin.ext (show 20 * q.val + l.val + 1 * (x 0).val = 20 * q.val + l.val by omega)
  | 1 => exact Fin.ext (show 16 * e.val + 1 * (x 1).val = c.val by omega)

theorem mem_pieces (v : View sig .scVector .vmem S80x128 .f32) (f : v.ty.Contents (Elt F)) (t : Fin k0_t1_loop.trips) (p : Fin 4)
    (c : View.Piece (Elt F) S512x128 .f32) : c ∈ pieces v f t p ↔ ∃ q e, c = piece v f t p q e := by
  unfold pieces
  simp only [List.mem_flatMap, List.mem_map]
  constructor
  · rintro ⟨q, -, e, -, rfl⟩; exact ⟨q, e, rfl⟩
  · rintro ⟨q, e, rfl⟩
    exact ⟨q, (by decide : ∀ q : Fin 4, q ∈ ([3, 2, 1, 0] : List (Fin 4))) q, e, (by decide : ∀ e : Fin 8, e ∈ ([7, 6, 5, 4, 3, 2, 1, 0] : List (Fin 8))) e, rfl⟩

theorem mem_piece (v : View sig .scVector .vmem S80x128 .f32) (f : v.ty.Contents (Elt F)) (t : Fin k0_t1_loop.trips) (p q : Fin 4) (e : Fin 8) (y : S512x128.Idx) :
    y ∈ (piece v f t p q e).1.set ↔ (y 0).val = 16 * t.val + 4 * p.val + q.val ∧ 16 * e.val ≤ (y 1).val ∧ (y 1).val < 16 * e.val + 16 := by
  unfold piece
  rw [Rect.mem_set_unit, offD_eq]
  constructor
  · intro h
    have h0 : 16 * t.val + 4 * p.val + q.val ≤ (y 0).val ∧ (y 0).val < 16 * t.val + 4 * p.val + q.val + 1 := h 0
    have h1 : 16 * e.val ≤ (y 1).val ∧ (y 1).val < 16 * e.val + 16 := h 1
    omega
  · rintro ⟨h0, h1, h2⟩ a
    match a with
    | 0 => exact ⟨h0.ge, show (y 0).val < 16 * t.val + 4 * p.val + q.val + 1 by omega⟩
    | 1 => exact ⟨h1, h2⟩

/-- A chunk's stores leave `accAt`. -/
theorem writes_pieces (v : View sig .scVector .vmem S80x128 .f32) (f : v.ty.Contents (Elt F)) (t : Fin k0_t1_loop.trips) (p : Fin 4)
    (fp : S512x128.Idx → F .f32) :
    (poolM.view.writes (Elt F) fp (pieces v f t p) : S512x128.Idx → F .f32) = accAt fp (v.read (Elt F) f) t.val p := by
  funext y
  by_cases hy : 16 * t.val + 4 * p.val ≤ (y 0).val ∧ (y 0).val < 16 * t.val + 4 * p.val + 4
  · refine View.read_writes_apply_of_pieces (v := poolM.view) (f := fp) (Val := Elt F) (accAt fp (v.read (Elt F) f) t.val p) (pieces v f t p) ?_ y ?_
    · intro c hc x
      obtain ⟨q, e, rfl⟩ := (mem_pieces v f t p c).1 hc
      have hx : (piece v f t p q e).1.emb x ∈ (piece v f t p q e).1.set := LoadRect.idx_mem _ x
      have hm := (mem_piece v f t p q e _).1 hx
      have hq : q.val < 4 := q.isLt
      have h1 : ((piece v f t p q e).1.emb x 1).val = 16 * e.val + (x 1).val := by
        show (offD t (BitVec.ofNat 32 p.val) (BitVec.ofNat 32 q.val) e) 1 + 1 * (x 1).val = _
        rw [offD_eq, Nat.one_mul]; rfl
      unfold accAt
      rw [dif_pos ⟨by omega, by omega⟩]
      have hqe : (⟨((piece v f t p q e).1.emb x 0).val - (16 * t.val + 4 * p.val), by omega⟩ : Fin 4) = q := Fin.ext (by show _ - _ = _; omega)
      rw [hqe]
      refine (segSum_apply v f q e x 19 (by decide)).trans ?_
      congr 1
      funext l
      exact readAt_row v f q l e x _ h1
    · have hl : (y 1).val < 128 := (y 1).isLt
      refine ⟨piece v f t p ⟨(y 0).val - (16 * t.val + 4 * p.val), by omega⟩ ⟨(y 1).val / 16, by omega⟩, (mem_pieces v f t p _).2 ⟨_, _, rfl⟩, (mem_piece v f t p _ _ y).2 ⟨?_, ?_, ?_⟩⟩
      · show (y 0).val = 16 * t.val + 4 * p.val + ((y 0).val - (16 * t.val + 4 * p.val)); omega
      · show 16 * ((y 1).val / 16) ≤ _; omega
      · show (y 1).val < 16 * ((y 1).val / 16) + 16; omega
  · refine (View.read_writes_apply_of_forall_not_mem (v := poolM.view) (f := fp) (Val := Elt F) y (pieces v f t p) ?_).trans ?_
    · intro c hc hm
      obtain ⟨q, e, rfl⟩ := (mem_pieces v f t p c).1 hc
      have := (mem_piece v f t p q e y).1 hm
      have hq : q.val < 4 := q.isLt
      exact hy (by omega)
    · unfold accAt; rw [dif_neg hy]; rfl

end Cert.Proof.Tile

end
-- ==== Proof.PoolSpec.lean ====
/-
  The pooled rows as mathematics over the tile's list of row numbers and the table: pooled row `n` of a tile is the sum
  of the table's rows that the list names at its twenty places.
-/
module

public import proofs.«01_k».proof.Proof.AccValue
public import Idealize.ShloMosaic.Lib.SparseCore.Stream

@[expose] public section

noncomputable section

namespace Cert.Proof.Tile

open Cert.Kernel Cert.Kernel.Gen
open Idealize.ShloMosaic

variable {F : FTy → Type} [FloatOps F]

/-- Place `(c, x)` of the list. -/
def listIx (c : Fin 128) (x : Fin 80) : S128x80.Idx := fun
  | 0 => c
  | 1 => x

/-- Lane `e` of the table's row that the word `w` names (its last row when there is none). -/
def tabIx (w : BitVec 32) (e : Fin 128) : S100000x128.Idx := fun
  | 0 => (⟨min w.toNat 99999, by omega⟩ : Fin 100000)
  | 1 => e

/-- The rows of chunk `c`. -/
def chunkRows (tb : S100000x128.Idx → F .f32) (fo : S128x80.Idx → BitVec 32) (c : Fin 128) : S80x128.Idx → F .f32 :=
  fun x => tb (tabIx (fo (listIx c (x 0))) (x 1))

/-- The tile's pooled rows. -/
def pooledTile (tb : S100000x128.Idx → F .f32) (fo : S128x80.Idx → BitVec 32) : S512x128.Idx → F .f32 := fun y =>
  have h : (y 0).val < 512 := (y 0).isLt
  sum20 (fun l => tb (tabIx (fo (listIx ⟨(y 0).val / 4, by omega⟩ ⟨20 * ((y 0).val % 4) + l.val, by omega⟩)) (y 1))) 19 (by decide)

/-- Chunk `4 t + p`'s stores make its four rows right and keep the others. -/
theorem accAt_chunkRows (tb : S100000x128.Idx → F .f32) (fo : S128x80.Idx → BitVec 32) (fp : S512x128.Idx → F .f32) (t : ℕ) (p : Fin 4)
    (c : Fin 128) (hc : c.val = 4 * t + p.val) (hfp : ∀ y, (y 0).val < 4 * c.val → fp y = pooledTile tb fo y) :
    ∀ y, (y 0).val < 4 * (c.val + 1) → accAt fp (chunkRows tb fo c) t p y = pooledTile tb fo y := by
  intro y hy
  unfold accAt
  split
  · next h =>
    unfold pooledTile
    dsimp only
    congr 1
    funext l
    show tb (tabIx (fo (listIx c _)) (y 1)) = _
    have h4 : c = ⟨(y 0).val / 4, by omega⟩ := Fin.ext (by show c.val = (y 0).val / 4; omega)
    rw [← h4]
    congr 4
    exact Fin.ext (by show 20 * ((y 0).val - (16 * t + 4 * p.val)) + l.val = 20 * ((y 0).val % 4) + l.val; omega)
  · next h => exact hfp y (by omega)

/-! ## Reading the list and the gather -/

abbrev idxV : View sig .scVector .vmem S128x80 .i32 := (Memref.whole cc0_scratch0).view

/-- Row `off 0` of the list, squeezed. -/
abbrev listM (off : Fin 2 → ℕ) (h : ∀ a, off a + S1x80.size a ≤ S128x80.size a) : Memref sig .scVector .vmem S80 .i32 :=
  (idxM.slice (Rect.unit (s := S128x80) off S1x80.size h) (fun _ => rfl)).squeeze S80 squeezes_S1x80_S80

/-- The whole table, as the gathers name it. -/
abbrev tabAll : Memref sig .scVector .hbm S100000x128 .f32 :=
  tabM.slice (Rect.unit (s := S100000x128) ![0, 0] S100000x128.size inb_S100000x128_S100000x128_0_0) (fun _ => rfl)

theorem read_listM (c : Fin 128) (h : ∀ a, (![c.val, 0] : Fin 2 → ℕ) a + S1x80.size a ≤ S128x80.size a) (fo : S128x80.Idx → BitVec 32) (x : S80.Idx) :
    (listM ![c.val, 0] h).view.read (Elt F) fo x = fo (listIx c (x 0)) := by
  have hx : (x 0).val < 80 := (x 0).isLt
  rw [View.read_apply, cast_eq]
  congr 1
  show (Rect.unit (s := S128x80) ![c.val, 0] S1x80.size h).emb (Shape.reshapeEquiv _ x) = _
  rw [Shape.reshapeEquiv_eq_of_rowMajor (s := S1x80) (s' := S80) _ (y := (fun | 0 => (0 : Fin 1) | 1 => x 0))
    (by rw [Shape.rowMajor_val_two, Shape.rowMajor_val_one]; show 0 * 80 + (x 0).val = (x 0).val; omega)]
  funext a
  match a with
  | 0 => exact Fin.ext (show c.val + 1 * 0 = c.val by omega)
  | 1 => exact Fin.ext (show 0 + 1 * (x 0).val = (x 0).val by omega)

theorem read_tabAll (tb : S100000x128.Idx → F .f32) : tabAll.view.read (Elt F) tb = tb := by
  funext x
  rw [View.read_apply, cast_eq]
  congr 1
  funext a
  match a with
  | 0 => exact Fin.ext (show 0 + 1 * (x 0).val = (x 0).val by omega)
  | 1 => exact Fin.ext (show 0 + 1 * (x 1).val = (x 1).val by omega)

/-- The gather's payload over row `c` of the list is chunk `c`'s rows. -/
theorem gather_eq (tb : S100000x128.Idx → F .f32) (fo : S128x80.Idx → BitVec 32) (c : Fin 128)
    (h : ∀ a, (![c.val, 0] : Fin 2 → ℕ) a + S1x80.size a ≤ S128x80.size a)
    (hn : S80.numel = S80x128.size (Shape.Gathers.axis' gathers_S100000x128_S80x128))
    (hin : ∀ x, ((listM ![c.val, 0] h).view.read (Elt F) fo x).toNat < S100000x128.size (Shape.Gathers.axis gathers_S100000x128_S80x128)) :
    SparseCore.gatherPayload gathers_S100000x128_S80x128 (tabAll.view.read (Elt F) tb)
      (SparseCore.rows ((listM ![c.val, 0] h).view.read (Elt F) fo) hn hin) = chunkRows tb fo c := by
  rw [read_tabAll]
  funext x
  unfold SparseCore.gatherPayload chunkRows
  congr 1
  funext a
  match a with
  | 0 =>
    refine Fin.ext ?_
    have hk : ((S80.rowMajor.symm ((x 0).cast hn.symm)) 0) = x 0 := by
      refine Fin.ext ?_
      rw [← Shape.rowMajor_val_one, Equiv.apply_symm_apply]; rfl
    have hlt := hin (S80.rowMajor.symm ((x 0).cast hn.symm))
    rw [read_listM, hk] at hlt
    have hlt' : (fo (listIx c (x 0))).toNat < 100000 := hlt
    show ((listM ![c.val, 0] h).view.read (Elt F) fo (S80.rowMajor.symm ((x 0).cast hn.symm))).toNat = min (fo (listIx c (x 0))).toNat 99999
    rw [read_listM, hk]
    omega
  | 1 => exact Fin.ext rfl

end Cert.Proof.Tile

end
-- ==== Proof.Gather.lean ====
/-
  One slot of the tile's four, between trips: idle, its gather in flight, or its rows landed; the issue of a gather and
  the wait for it move it between these.
-/
module

public import proofs.«01_k».proof.Proof.PoolSpec

@[expose] public section

noncomputable section

namespace Cert.Proof.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

section Slot

variable (d : Dev nD) (L : grid0.Coords)
variable (v : Memref sig .scVector .vmem S80x128 .f32) (sem : DmaSem sig)
variable (qt qo : PosShare TreeShare) (tb : S100000x128.Idx → F .f32) (fo : S128x80.Idx → BitVec 32)

/-- A share of the table, and a share of the list. -/
abbrev TabSh : sProp 𝕄 := (tabM.view.loc (tV d L) ↦{qt} tb : sProp 𝕄)
abbrev ListSh : sProp 𝕄 := (idxM.view.loc (tV d L) ↦{qo} fo : sProp 𝕄)

theorem list_inb (c : Fin 128) : ∀ a, (![c.val, 0] : Fin 2 → ℕ) a + S1x80.size a ≤ S128x80.size a := by
  intro a
  match a with
  | 0 => show c.val + 1 ≤ 128; omega
  | 1 => show 0 + 80 ≤ 80; omega

/-- Idle: the slot at anything, its shares, its semaphore at zero. -/
def Idle : sProp 𝕄 :=
  iprop((∃ fd : Buf (Elt F) (v.view.loc (tV d L)), v.view.loc (tV d L) ↦[v.view.set]{fullShare} fd)
    ∗ TabSh d L qt tb ∗ ListSh d L qo fo ∗ semVal (tV d L, SemLoc.dma sem) 0)

/-- Chunk `c`'s rows landed. -/
def Ready (c : Fin 128) (fd : Buf (Elt F) (v.view.loc (tV d L))) : sProp 𝕄 :=
  iprop((v.view.loc (tV d L) ↦[v.view.set]{fullShare} fd) ∗ TabSh d L qt tb ∗ ListSh d L qo fo ∗ semVal (tV d L, SemLoc.dma sem) 0)

/-- Chunk `c`'s gather in flight. -/
def Pend (c : Fin 128) : sProp 𝕄 :=
  iprop(∃ fd : Buf (Elt F) (v.view.loc (tV d L)), ⌜v.view.read (Elt F) fd = chunkRows tb fo c⌝
    ∗ Transfers.Flight countersEmb (tV d L) (.dma sem) (default : HIx 1) v.view.dmaCredit
        iprop((v.view.loc (tV d L) ↦[v.view.set]{fullShare} fd)
          ∗ (tabAll.view.loc (tV d L) ↦[tabAll.view.set]{qt} tb)
          ∗ ((listM ![c.val, 0] (list_inb c)).view.loc (tV d L) ↦[(listM ![c.val, 0] (list_inb c)).view.set]{qo} fo))
    ∗ (tabM.view.loc (tV d L) ↦[Finset.univ \ tabAll.view.set]{qt} tb)
    ∗ (idxM.view.loc (tV d L) ↦[Finset.univ \ (listM ![c.val, 0] (list_inb c)).view.set]{qo} fo))

/-- The slot before the trip that handles chunk `c`: in flight while there is such a chunk, idle after the last. -/
def SlotSt (c : ℕ) : sProp 𝕄 := if h : c < 128 then Pend d L v sem qt qo tb fo ⟨c, h⟩ else Idle d L v sem qt qo tb fo

/-- What the tile owes, the waits it has recorded since `W` all of no level. -/
def Owes (O : CellTallies nD τ sig (HIx 1)) (W : Waits sig (HIx 1)) : sProp 𝕄 :=
  iprop(∃ W', ⌜∀ p ∈ W', p ∈ W ∨ p.2 = none⌝ ∗ owes (tV d L) O W')

variable {Dv : Defs nD τ sig (Elt F) Λ₀} {d L v sem qt qo tb fo}

/-- The issue of chunk `c`'s gather. -/
theorem issue {R : Type} {Q : R → sProp 𝕄}
    {k : PUnit → Prog (TpuEff nD τ sig (Elt F) Λ₀ (.scVector ((L 0).castLE hcore0) ((L 1).castLE hsub0))) R}
    (hN : ∀ h : S100000x128.Gathers 0 S80x128, ∑ j, (v.slice (S80x128.rowRect h.axis' j) (S80x128.stride_rowRect h.axis' j)).view.dmaCredit = v.view.dmaCredit)
    (hfo : ∀ j, (fo j).toNat < 100000) (c : Fin 128)
    (off : Fin 2 → ℕ) (inb : ∀ a, off a + S1x80.size a ≤ S128x80.size a) (hoff : off = ![c.val, 0])
    {hp : (tV d L).2.kind = .scVector} {hn} {hsrc} {he : EltTy.f32.bits = 32} {hsp} {hr} :
    Idle d L v sem qt qo tb fo
      ⊢ iprop((Pend d L v sem qt qo tb fo c -∗ wp frame (wpE Dv 𝒱₀ (tV d L) none) Set.univ (k ⟨⟩) Q)
          -∗ wp frame (wpE Dv 𝒱₀ (tV d L) none) Set.univ
              (SparseCore.enqueueIndirectGather (p := (tV d L).2) hp tabAll v gathers_S100000x128_S80x128 (listM off inb) hn sem hsrc he hsp hr >>= k) Q) := by
  subst hoff
  unfold Idle
  iintro ⟨⟨%fd, Hv⟩, Ht, Hl, Hs⟩ Hk
  have hin : ∀ x, ((listM ![c.val, 0] (list_inb c)).view.read (Elt F) fo x).toNat < S100000x128.size (Shape.Gathers.axis gathers_S100000x128_S80x128) := by
    intro x; rw [read_listM]; exact hfo _
  ihave Ht := (pointsTo_split_subset (q := qt) (f := tb) (S := Finset.univ) (Finset.subset_univ tabAll.view.set)).1 $$ Ht
  icases Ht with ⟨Ht, Htr⟩
  ihave Hl := (pointsTo_split_subset (q := qo) (f := fo) (S := Finset.univ) (Finset.subset_univ (listM ![c.val, 0] (list_inb c)).view.set)).1 $$ Hl
  icases Hl with ⟨Hl, Hlr⟩
  iapply (SparseCore.wp_indirectGatherLocal countersEmb 𝒱₀ (tV d L) none (hg := gathers_S100000x128_S80x128) (default : HIx 1)
      v.view.dmaCredit (hN _) (by decide) hin) $$ [Ht Hv Hl Hs]
  · isplitl [Ht]; · iexact Ht
    isplitl [Hv]; · iexact Hv
    isplitl [Hl]; · iexact Hl
    iexact Hs
  iintro Hfl
  iapply Hk
  unfold Pend
  iexists _
  isplitr
  swap
  · isplitl [Hfl]; · iexact Hfl
    isplitl [Htr]; · iexact Htr
    iexact Hlr
  ipureintro
  rw [View.read_write_univ]
  exact gather_eq tb fo c (list_inb c) _ hin

/-- The wait for chunk `c`'s gather. -/
theorem await {R : Type} {Q : R → sProp 𝕄}
    {k : PUnit → Prog (TpuEff nD τ sig (Elt F) Λ₀ (.scVector ((L 0).castLE hcore0) ((L 1).castLE hsub0))) R}
    (c : Fin 128) (O : CellTallies nD τ sig (HIx 1)) (W : Waits sig (HIx 1)) {hsrc} {hdst} :
    iprop(Pend d L v sem qt qo tb fo c ∗ Owes d L O W ∗ Transfers.MayWaits (tV d L) (default : HIx 1) O)
      ⊢ iprop((∀ fd, iprop(⌜v.view.read (Elt F) fd = chunkRows tb fo c⌝ ∗ Ready d L v sem qt qo tb fo c fd ∗ Owes d L O W)
            -∗ wp frame (wpE Dv 𝒱₀ (tV d L) none) Set.univ (k ⟨⟩) Q)
          -∗ wp frame (wpE Dv 𝒱₀ (tV d L) none) Set.univ
              (SparseCore.waitIndirectGather (p := (tV d L).2) sem tabAll v hsrc hdst >>= k) Q) := by
  unfold Pend Owes
  iintro ⟨⟨%fd, %hfd, Hfl, Htr, Hlr⟩, ⟨%W', %hW, HO⟩, Hmw⟩ Hk
  iapply (Transfers.wp_waitLocalO countersEmb 𝒱₀ (tV d L) none (default : HIx 1) (rfl : v.view.dmaCredit = _)) $$ [Hfl HO Hmw]
  · isplitl [Hfl]; · iexact Hfl
    isplitl [HO]; · iexact HO
    iapply (Transfers.MayWaits.elim (SemLoc.dma sem)) $$ Hmw
  iintro ⟨⟨Hv, Ht, Hl⟩, Hs, HO⟩
  iapply Hk $$ %fd
  isplitr; · ipureintro; exact hfd
  isplitr [HO]
  · unfold Ready
    isplitl [Hv]; · iexact Hv
    isplitl [Ht Htr]
    · iapply (pointsTo_split_subset (q := qt) (f := tb) (S := Finset.univ) (Finset.subset_univ tabAll.view.set)).2
      isplitl [Ht]; · iexact Ht
      iexact Htr
    isplitl [Hl Hlr]
    · iapply (pointsTo_split_subset (q := qo) (f := fo) (S := Finset.univ) (Finset.subset_univ (listM ![c.val, 0] (list_inb c)).view.set)).2
      isplitl [Hl]; · iexact Hl
      iexact Hlr
    iexact Hs
  iexists _; isplitr
  swap; · iexact HO
  ipureintro; intro p hp
  rcases Finset.mem_insert.mp hp with hp | hp
  · exact .inr (hp ▸ rfl)
  · exact hW p hp

/-- The issue of the slot's next gather, under its condition. -/
theorem reissue {R : Type} {Q : R → sProp 𝕄}
    {k : Prog (TpuEff nD τ sig (Elt F) Λ₀ (.scVector ((L 0).castLE hcore0) ((L 1).castLE hsub0))) R}
    (hN : ∀ h : S100000x128.Gathers 0 S80x128, ∑ j, (v.slice (S80x128.rowRect h.axis' j) (S80x128.stride_rowRect h.axis' j)).view.dmaCredit = v.view.dmaCredit)
    (hfo : ∀ j, (fo j).toNat < 100000) (c : Fin 128) (fd : Buf (Elt F) (v.view.loc (tV d L)))
    (b : BitVec 1) (off : Fin 2 → ℕ) (inb : b = 1#1 → ∀ a, off a + S1x80.size a ≤ S128x80.size a) (hoff : off = ![c.val + 4, 0])
    (hb : b = 1#1 ↔ c.val + 4 < 128)
    {hp : (tV d L).2.kind = .scVector} {hn} {hsrc} {he : EltTy.f32.bits = 32} {hsp} {hr} :
    iprop(Ready d L v sem qt qo tb fo c fd ∗ (SlotSt d L v sem qt qo tb fo (c.val + 4) -∗ wp frame (wpE Dv 𝒱₀ (tV d L) none) Set.univ k Q))
      ⊢ wp frame (wpE Dv 𝒱₀ (tV d L) none) Set.univ
              (if h : b = 1#1 then (do
                SparseCore.enqueueIndirectGather (p := (tV d L).2) hp tabAll v gathers_S100000x128_S80x128 (listM off (inb h)) hn sem hsrc he hsp hr
                k) else k) Q := by
  by_cases h : b = 1#1
  · rw [dif_pos h]
    iintro ⟨Hr, Hk⟩
    iapply (issue hN hfo (⟨c.val + 4, hb.1 h⟩ : Fin 128) off (inb h) hoff) $$ [Hr]
    · unfold Ready Idle
      icases Hr with ⟨Hv, Ht, Hl, Hs⟩
      isplitl [Hv]; · iexists fd; iexact Hv
      isplitl [Ht]; · iexact Ht
      isplitl [Hl]; · iexact Hl
      iexact Hs
    iintro Hp
    iapply Hk
    unfold SlotSt
    rw [dif_pos (hb.1 h)]
    iexact Hp
  · rw [dif_neg h]
    iintro ⟨Hr, Hk⟩
    iapply Hk
    unfold SlotSt
    rw [dif_neg (fun h' => h (hb.2 h'))]
    unfold Ready Idle
    icases Hr with ⟨Hv, Ht, Hl, Hs⟩
    isplitl [Hv]; · iexists fd; iexact Hv
    isplitl [Ht]; · iexact Ht
    isplitl [Hl]; · iexact Hl
    iexact Hs

end Slot

end Cert.Proof.Tile

end
-- ==== Proof.Trip.lean ====
/-
  One trip of the tile's loop: four chunks, each waited for, accumulated, and its slot's next gather issued.
-/
module

public import proofs.«01_k».proof.Proof.Gather

@[expose] public section

noncomputable section

namespace Cert.Proof.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-- The four quarters of a share. -/
def quarter (q : PosShare TreeShare) : Fin 4 → PosShare TreeShare
  | 0 => q.left.left
  | 1 => q.left.right
  | 2 => q.right.left
  | 3 => q.right.right

theorem slot0_credit : ∀ h : S100000x128.Gathers 0 S80x128,
    ∑ j, (slot0.slice (S80x128.rowRect h.axis' j) (S80x128.stride_rowRect h.axis' j)).view.dmaCredit = slot0.view.dmaCredit := by decide
theorem slot1_credit : ∀ h : S100000x128.Gathers 0 S80x128,
    ∑ j, (slot1.slice (S80x128.rowRect h.axis' j) (S80x128.stride_rowRect h.axis' j)).view.dmaCredit = slot1.view.dmaCredit := by decide
theorem slot2_credit : ∀ h : S100000x128.Gathers 0 S80x128,
    ∑ j, (slot2.slice (S80x128.rowRect h.axis' j) (S80x128.stride_rowRect h.axis' j)).view.dmaCredit = slot2.view.dmaCredit := by decide
theorem slot3_credit : ∀ h : S100000x128.Gathers 0 S80x128,
    ∑ j, (slot3.slice (S80x128.rowRect h.axis' j) (S80x128.stride_rowRect h.axis' j)).view.dmaCredit = slot3.view.dmaCredit := by decide

theorem cond1_iff : ∀ t : Fin k0_t1_loop.trips, k0_cond1 t = 1#1 ↔ 4 * t.val + 4 < 128 := by decide +kernel
theorem cond2_iff : ∀ t : Fin k0_t1_loop.trips, k0_cond2 t = 1#1 ↔ 4 * t.val + 1 + 4 < 128 := by decide +kernel
theorem cond3_iff : ∀ t : Fin k0_t1_loop.trips, k0_cond3 t = 1#1 ↔ 4 * t.val + 2 + 4 < 128 := by decide +kernel
theorem cond4_iff : ∀ t : Fin k0_t1_loop.trips, k0_cond4 t = 1#1 ↔ 4 * t.val + 3 + 4 < 128 := by decide +kernel

section Tile

variable (d : Dev nD) (L : grid0.Coords) (qt : PosShare TreeShare) (tb : S100000x128.Idx → F .f32) (fo : S128x80.Idx → BitVec 32)

/-- The first `4 c` pooled rows right. -/
def PoolSt (c : ℕ) : sProp 𝕄 :=
  iprop(∃ fp : Buf (Elt F) (poolM.view.loc (tV d L)), ⌜∀ y : S512x128.Idx, (y 0).val < 4 * c → (fp : S512x128.Idx → F .f32) y = pooledTile tb fo y⌝
    ∗ poolM.view.loc (tV d L) ↦{fullShare} fp)

abbrev Slots (n : ℕ) : sProp 𝕄 :=
  iprop(SlotSt d L slot0 cc0_scratch3.sem (quarter qt 0) (quarter fullShare 0) tb fo (4 * n)
    ∗ SlotSt d L slot1 cc0_scratch4.sem (quarter qt 1) (quarter fullShare 1) tb fo (4 * n + 1)
    ∗ SlotSt d L slot2 cc0_scratch5.sem (quarter qt 2) (quarter fullShare 2) tb fo (4 * n + 2)
    ∗ SlotSt d L slot3 cc0_scratch6.sem (quarter qt 3) (quarter fullShare 3) tb fo (4 * n + 3))

/-- Before trip `n`. -/
def Inv (O : CellTallies nD τ sig (HIx 1)) (W : Waits sig (HIx 1)) (n : ℕ) : sProp 𝕄 :=
  iprop(PoolSt d L tb fo (4 * n) ∗ Owes d L O W ∗ Slots d L qt tb fo n)

variable {Dv : Defs nD τ sig (Elt F) Λ₀} {d L qt tb fo}

/-- One chunk accumulated. -/
theorem accStep {v : Memref sig .scVector .vmem S80x128 .f32} {sem : DmaSem sig} {qt qo : PosShare TreeShare}
    {s : ∀ {R : Type}, Prog (TpuEff nD τ sig (Elt F) Λ₀ (.scVector ((L 0).castLE hcore0) ((L 1).castLE hsub0))) R →
      Prog (TpuEff nD τ sig (Elt F) Λ₀ (.scVector ((L 0).castLE hcore0) ((L 1).castLE hsub0))) R}
    {fd : Buf (Elt F) (v.view.loc (tV d L))} {c : Fin 128} (t : ℕ) (p : Fin 4) (hc : c.val = 4 * t + p.val)
    (hs : ∀ fp, AccSpec Dv d L v.view fd fp (accAt fp (v.view.read (Elt F) fd) t p) s) (hfd : v.view.read (Elt F) fd = chunkRows tb fo c)
    {R : Type} {κ : Prog (TpuEff nD τ sig (Elt F) Λ₀ (.scVector ((L 0).castLE hcore0) ((L 1).castLE hsub0))) R} {Q : R → sProp 𝕄} :
    iprop(Ready d L v sem qt qo tb fo c fd ∗ PoolSt d L tb fo c.val)
      ⊢ iprop((iprop(Ready d L v sem qt qo tb fo c fd ∗ PoolSt d L tb fo (c.val + 1)) -∗
            wp frame (wpE Dv 𝒱₀ (tV d L) none) Set.univ κ Q)
          -∗ wp frame (wpE Dv 𝒱₀ (tV d L) none) Set.univ (s κ) Q) := by
  unfold Ready PoolSt
  iintro ⟨⟨Hv, Ht, Hl, Hs⟩, %fp, %hfp, Hp⟩ Hk
  iapply (hs fp κ Q)
  isplitl [Hv]; · iexact Hv
  isplitl [Hp]; · iexact Hp
  iintro ⟨Hv, Hp⟩
  iapply Hk
  isplitr [Hp]
  · isplitl [Hv]; · iexact Hv
    isplitl [Ht]; · iexact Ht
    isplitl [Hl]; · iexact Hl
    iexact Hs
  iexists _
  isplitr
  swap; · iexact Hp
  ipureintro
  rw [hfd]
  exact accAt_chunkRows tb fo fp t p c hc hfp

theorem acc0_spec (t : Fin k0_t1_loop.trips) (fd : Buf (Elt F) (slot0.view.loc (tV d L))) (fp) :
    AccSpec Dv d L slot0.view fd fp (accAt fp (slot0.view.read (Elt F) fd) t.val 0)
      (seg2 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) :=
  ((acc0_eq Dv d L t fd fp).trans (writes_pieces slot0.view fd t 0 fp)) ▸ (acc0 Dv d L t fd fp).2
theorem acc1_spec (t : Fin k0_t1_loop.trips) (fd : Buf (Elt F) (slot1.view.loc (tV d L))) (fp) :
    AccSpec Dv d L slot1.view fd fp (accAt fp (slot1.view.read (Elt F) fd) t.val 1)
      (seg4 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) :=
  ((acc1_eq Dv d L t fd fp).trans (writes_pieces slot1.view fd t 1 fp)) ▸ (acc1 Dv d L t fd fp).2
theorem acc2_spec (t : Fin k0_t1_loop.trips) (fd : Buf (Elt F) (slot2.view.loc (tV d L))) (fp) :
    AccSpec Dv d L slot2.view fd fp (accAt fp (slot2.view.read (Elt F) fd) t.val 2)
      (seg6 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) :=
  ((acc2_eq Dv d L t fd fp).trans (writes_pieces slot2.view fd t 2 fp)) ▸ (acc2 Dv d L t fd fp).2
theorem acc3_spec (t : Fin k0_t1_loop.trips) (fd : Buf (Elt F) (slot3.view.loc (tV d L))) (fp) :
    AccSpec Dv d L slot3.view fd fp (accAt fp (slot3.view.read (Elt F) fd) t.val 3)
      (seg8 L textM (Memref.isWhole_whole _) tabM (Memref.isWhole_whole _) outM (Memref.isWhole_whole _) idxM (Memref.isWhole_whole _)
          rowsM (Memref.isWhole_whole _) poolM (Memref.isWhole_whole _) cc0_scratch3 cc0_scratch4 cc0_scratch5 cc0_scratch6 cc0_scoped0 cc0_scoped1 t) :=
  ((acc3_eq Dv d L t fd fp).trans (writes_pieces slot3.view fd t 3 fp)) ▸ (acc3 Dv d L t fd fp).2

set_option maxHeartbeats 2000000 in
theorem trip (hfo : ∀ j, (fo j).toNat < 100000) (O : CellTallies nD τ sig (HIx 1)) (W : Waits sig (HIx 1)) (hO : ∀ g, O g none = 0)
    (t : Fin k0_t1_loop.trips) :
    iprop(levAts (K (F := F)).L (K (F := F)).lev ∗ Inv d L qt tb fo O W t.val)
      ⊢ wp frame (wpE Dv 𝒱₀ (tV d L) none) Set.univ
          (k0_t1_body L textM (Memref.isWhole_whole _) tabM (Memref.isWhole_whole _) outM (Memref.isWhole_whole _) idxM (Memref.isWhole_whole _)
            rowsM (Memref.isWhole_whole _) poolM (Memref.isWhole_whole _) cc0_scratch3 cc0_scratch4 cc0_scratch5 cc0_scratch6 cc0_scoped0 cc0_scoped1 t ⟨⟩)
          fun _ => Inv d L qt tb fo O W (t.val + 1) := by
  have ht : t.val < 32 := lt_of_lt_of_eq t.isLt trips_eq
  have hc0 : 4 * t.val < 128 := by omega
  have hc1 : 4 * t.val + 1 < 128 := by omega
  have hc2 : 4 * t.val + 2 < 128 := by omega
  have hc3 : 4 * t.val + 3 < 128 := by omega
  unfold Inv Slots
  rw [show SlotSt d L slot0 cc0_scratch3.sem (quarter qt 0) (quarter fullShare 0) tb fo (4 * t.val) = _ from dif_pos hc0,
    show SlotSt d L slot1 cc0_scratch4.sem (quarter qt 1) (quarter fullShare 1) tb fo (4 * t.val + 1) = _ from dif_pos hc1,
    show SlotSt d L slot2 cc0_scratch5.sem (quarter qt 2) (quarter fullShare 2) tb fo (4 * t.val + 2) = _ from dif_pos hc2,
    show SlotSt d L slot3 cc0_scratch6.sem (quarter qt 3) (quarter fullShare 3) tb fo (4 * t.val + 3) = _ from dif_pos hc3]
  iintro ⟨#Hlv, Hp, HO, H0, H1, H2, H3⟩
  rw [flat.eq, seg1.eq]
  unfold seg1
  ihave Hmw := (show levAts (K (F := F)).L (K (F := F)).lev ⊢ Transfers.MayWaits (tV d L) (default : HIx 1) O from
    (K (F := F)).mayWaits_none (thr := tV d L) hO) $$ Hlv
  iapply (await (⟨4 * t.val, hc0⟩ : Fin 128) O W) $$ [H0 HO Hmw]
  · isplitl [H0]; · iexact H0
    isplitl [HO]; · iexact HO
    iexact Hmw
  iintro %fd0 ⟨%hfd0, H0, HO⟩
  rw [seg2.eq]
  iapply (accStep t.val 0 rfl (acc0_spec t fd0) hfd0) $$ [H0 Hp]
  · isplitl [H0]; · iexact H0
    iexact Hp
  iintro ⟨H0, Hp⟩
  rw [seg3.eq]
  unfold seg3
  iapply (reissue slot0_credit hfo (⟨4 * t.val, hc0⟩ : Fin 128) fd0 (k0_cond1 t) _ _ (k0_off11_eq t) (cond1_iff t))
  isplitl [H0]; · iexact H0
  iintro H0
  ihave Hmw := (show levAts (K (F := F)).L (K (F := F)).lev ⊢ Transfers.MayWaits (tV d L) (default : HIx 1) O from
    (K (F := F)).mayWaits_none (thr := tV d L) hO) $$ Hlv
  iapply (await (⟨4 * t.val + 1, hc1⟩ : Fin 128) O W) $$ [H1 HO Hmw]
  · isplitl [H1]; · iexact H1
    isplitl [HO]; · iexact HO
    iexact Hmw
  iintro %fd1 ⟨%hfd1, H1, HO⟩
  rw [seg4.eq]
  iapply (accStep t.val 1 rfl (acc1_spec t fd1) hfd1) $$ [H1 Hp]
  · isplitl [H1]; · iexact H1
    iexact Hp
  iintro ⟨H1, Hp⟩
  rw [seg5.eq]
  unfold seg5
  iapply (reissue slot1_credit hfo (⟨4 * t.val + 1, hc1⟩ : Fin 128) fd1 (k0_cond2 t) _ _ (k0_off12_eq t) (cond2_iff t))
  isplitl [H1]; · iexact H1
  iintro H1
  ihave Hmw := (show levAts (K (F := F)).L (K (F := F)).lev ⊢ Transfers.MayWaits (tV d L) (default : HIx 1) O from
    (K (F := F)).mayWaits_none (thr := tV d L) hO) $$ Hlv
  iapply (await (⟨4 * t.val + 2, hc2⟩ : Fin 128) O W) $$ [H2 HO Hmw]
  · isplitl [H2]; · iexact H2
    isplitl [HO]; · iexact HO
    iexact Hmw
  iintro %fd2 ⟨%hfd2, H2, HO⟩
  rw [seg6.eq]
  iapply (accStep t.val 2 rfl (acc2_spec t fd2) hfd2) $$ [H2 Hp]
  · isplitl [H2]; · iexact H2
    iexact Hp
  iintro ⟨H2, Hp⟩
  rw [seg7.eq]
  unfold seg7
  iapply (reissue slot2_credit hfo (⟨4 * t.val + 2, hc2⟩ : Fin 128) fd2 (k0_cond3 t) _ _ (k0_off13_eq t) (cond3_iff t))
  isplitl [H2]; · iexact H2
  iintro H2
  ihave Hmw := (show levAts (K (F := F)).L (K (F := F)).lev ⊢ Transfers.MayWaits (tV d L) (default : HIx 1) O from
    (K (F := F)).mayWaits_none (thr := tV d L) hO) $$ Hlv
  iapply (await (⟨4 * t.val + 3, hc3⟩ : Fin 128) O W) $$ [H3 HO Hmw]
  · isplitl [H3]; · iexact H3
    isplitl [HO]; · iexact HO
    iexact Hmw
  iintro %fd3 ⟨%hfd3, H3, HO⟩
  rw [seg8.eq]
  iapply (accStep t.val 3 rfl (acc3_spec t fd3) hfd3) $$ [H3 Hp]
  · isplitl [H3]; · iexact H3
    iexact Hp
  iintro ⟨H3, Hp⟩
  rw [seg9.eq]
  unfold seg9
  iapply (reissue slot3_credit hfo (⟨4 * t.val + 3, hc3⟩ : Fin 128) fd3 (k0_cond4 t) _ _ (k0_off14_eq t) (cond4_iff t))
  isplitl [H3]; · iexact H3
  iintro H3
  unfold seg9.tail
  sl_step
  rw [show 4 * (t.val + 1) = 4 * t.val + 4 by omega]
  isplitl [Hp]; · iexact Hp
  isplitl [HO]; · iexact HO
  isplitl [H0]; · iexact H0
  isplitl [H1]; · iexact H1
  isplitl [H2]; · iexact H2
  iexact H3

end Tile

end Cert.Proof.Tile

end
-- ==== Proof.Tile.lean ====
/-
  The tile's task: the list of row numbers in, the four slots' first gathers, the loop, the pooled rows out.
-/
module

public import proofs.«01_k».proof.Proof.Trip
public import Idealize.ShloMosaic.Lib.Ring

@[expose] public section

noncomputable section

namespace Cert.Proof.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## All the pooled rows -/

/-- Word `(c, x)` of worker `w`'s list. -/
def textIx (w : Fin 32) (c : Fin 128) (x : Fin 80) : S32x128x80.Idx := fun
  | 0 => w
  | 1 => c
  | 2 => x

/-- Pooled row `n`: the sum of the twenty rows of the table that the words of sentence `n` name. -/
def pooledAll [FloatOps F] (tx : S32x128x80.Idx → BitVec 32) (tb : S100000x128.Idx → F .f32) : S16384x128.Idx → F .f32 := fun y =>
  have h : (y 0).val < 16384 := (y 0).isLt
  sum20 (fun l => tb (tabIx (tx (textIx ⟨(y 0).val / 512, by omega⟩ ⟨(y 0).val % 512 / 4, by omega⟩ ⟨20 * ((y 0).val % 4) + l.val, by omega⟩)) (y 1)))
    19 (by decide)

/-- The tile's list and its block of the pooled rows, as the tile addresses them. -/
abbrev textRowM (L : grid0.Coords) : Memref sig .scVector .hbm S128x80 .i32 :=
  (textM.slice (Rect.unit (s := S32x128x80) (k0_off1 L) S1x128x80.size (k0_off1_inb L)) (fun _ => rfl)).squeeze S128x80 squeezes_S1x128x80_S128x80
abbrev outBlkM (L : grid0.Coords) : Memref sig .scVector .hbm S512x128 .f32 :=
  outM.slice (Rect.unit (s := S16384x128) (k0_off15 L) S512x128.size (k0_off15_inb L)) (fun _ => rfl)

/-- The tile's number. -/
def worker (L : grid0.Coords) : Fin 32 :=
  ⟨2 * (L 1).val + (L 0).val, by have h1 : (L 1).val < 16 := (L 1).isLt; have h0 : (L 0).val < 2 := (L 0).isLt; omega⟩

theorem emb_textRow (L : grid0.Coords) (z : S128x80.Idx) : (textRowM L).view.emb z = textIx (worker L) (z 0) (z 1) := by
  have h0 : (z 0).val < 128 := (z 0).isLt
  have h1 : (z 1).val < 80 := (z 1).isLt
  show (Rect.unit (s := S32x128x80) (k0_off1 L) S1x128x80.size (k0_off1_inb L)).emb (Shape.reshapeEquiv _ z) = _
  rw [Shape.reshapeEquiv_eq_of_rowMajor (s := S1x128x80) (s' := S128x80) _ (y := (fun | 0 => (0 : Fin 1) | 1 => z 0 | 2 => z 1))
    (by rw [Shape.rowMajor_val_three, Shape.rowMajor_val_two]; show (0 * 128 + (z 0).val) * 80 + (z 1).val = (z 0).val * 80 + (z 1).val; omega)]
  funext a
  have e := congrFun (k0_off1_eq L) a
  match a with
  | 0 =>
    refine Fin.ext ?_
    show k0_off1 L 0 + 1 * 0 = 2 * (L 1).val + (L 0).val
    rw [e]; simp
  | 1 =>
    refine Fin.ext ?_
    show k0_off1 L 1 + 1 * (z 0).val = (z 0).val
    rw [e]; simp
  | 2 =>
    refine Fin.ext ?_
    show k0_off1 L 2 + 1 * (z 1).val = (z 1).val
    rw [e]; simp

theorem emb_outBlk (L : grid0.Coords) (x : S512x128.Idx) :
    (((outBlkM L).view.emb x : S16384x128.Idx) 0).val = 512 * (worker L).val + (x 0).val ∧ ((outBlkM L).view.emb x : S16384x128.Idx) 1 = x 1 := by
  constructor
  · show k0_off15 L 0 + 1 * (x 0).val = 512 * (2 * (L 1).val + (L 0).val) + (x 0).val
    rw [k0_off15_eq]
    show 1024 * (L 1).val + 512 * (L 0).val + 1 * (x 0).val = _
    omega
  · refine Fin.ext ?_
    show k0_off15 L 1 + 1 * (x 1).val = (x 1).val
    rw [k0_off15_eq]; simp

variable [FloatOps F]

/-- The tile's list. -/
abbrev fo (L : grid0.Coords) (tx : S32x128x80.Idx → BitVec 32) : S128x80.Idx → BitVec 32 := (textRowM L).view.read (Elt F) tx

theorem fo_apply (L : grid0.Coords) (tx : S32x128x80.Idx → BitVec 32) (z : S128x80.Idx) :
    fo (F := F) L tx z = tx (textIx (worker L) (z 0) (z 1)) := by
  show (textRowM L).view.read (Elt F) tx z = _
  rw [View.read_apply, cast_eq, emb_textRow]

/-- The tile's pooled rows are its block of all the pooled rows. -/
theorem pooledTile_fo (L : grid0.Coords) (tx : S32x128x80.Idx → BitVec 32) (tb : S100000x128.Idx → F .f32) (x : S512x128.Idx) :
    pooledTile tb (fo (F := F) L tx) x = pooledAll tx tb ((outBlkM L).view.emb x) := by
  obtain ⟨e0, e1⟩ := emb_outBlk L x
  have hx : (x 0).val < 512 := (x 0).isLt
  unfold pooledTile pooledAll
  dsimp only
  congr 1
  funext l
  rw [fo_apply, e1]
  congr 3
  funext a
  match a with
  | 0 => exact Fin.ext (show (worker L).val = (((outBlkM L).view.emb x : S16384x128.Idx) 0).val / 512 by omega)
  | 1 => exact Fin.ext (show (x 0).val / 4 = (((outBlkM L).view.emb x : S16384x128.Idx) 0).val % 512 / 4 by omega)
  | 2 => exact Fin.ext (show 20 * ((x 0).val % 4) + l.val = 20 * ((((outBlkM L).view.emb x : S16384x128.Idx) 0).val % 4) + l.val by omega)

/-! ## The slots are the buffer of gathered rows in four -/

theorem four_dvd : 4 ∣ S4x80x128.size 0 := ⟨1, rfl⟩
abbrev slotSet (p : Fin 4) : Finset S4x80x128.Idx := (Rect.part (s := S4x80x128) (a₀ := 0) four_dvd p).set

theorem slot_set (p : Fin 4) (h : ∀ a, (![p.val, 0, 0] : Fin 3 → ℕ) a + S1x80x128.size a ≤ S4x80x128.size a) : (slot p.val h).view.set = slotSet p := by
  show ((rowsM.view.slice (Rect.unit (s := S4x80x128) ![p.val, 0, 0] S1x80x128.size h)).reshape S80x128 squeezes_S1x80x128_S80x128.numel_eq).set = _
  rw [View.set_reshape]
  have e : Rect.unit (s := S4x80x128) ![p.val, 0, 0] S1x80x128.size h = Rect.part (s := S4x80x128) (a₀ := 0) four_dvd p := by
    unfold Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  have e' : (rowsM.view.slice (Rect.unit (s := S4x80x128) ![p.val, 0, 0] S1x80x128.size h)).set
      = (rowsM.view.slice (Rect.part (s := S4x80x128) (a₀ := 0) four_dvd p)).set := e ▸ rfl
  rw [e']
  show ((View.whole (cc0_scratch1 : Ref sig .scVector)).slice _).set = _
  rw [View.set_slice]
  exact Finset.map_refl

theorem slot0_set : slot0.view.set = slotSet 0 := slot_set 0 inb_S4x80x128_S1x80x128_0_0_0
theorem slot1_set : slot1.view.set = slotSet 1 := slot_set 1 inb_S4x80x128_S1x80x128_1_0_0
theorem slot2_set : slot2.view.set = slotSet 2 := slot_set 2 inb_S4x80x128_S1x80x128_2_0_0
theorem slot3_set : slot3.view.set = slotSet 3 := slot_set 3 inb_S4x80x128_S1x80x128_3_0_0

theorem slots_disjoint : ∀ i ∈ (Finset.univ : Finset (Fin 4)), ∀ j ∈ (Finset.univ : Finset (Fin 4)), i ≠ j → Disjoint (slotSet i) (slotSet j) :=
  fun _ _ _ _ h => Rect.part_disjoint four_dvd h
theorem slots_cover : (Finset.univ : Finset (Fin 4)).biUnion slotSet = Finset.univ := Rect.biUnion_part four_dvd

section Buffers
variable (d : Dev nD) (L : grid0.Coords)

/-- A slot at something. -/
abbrev SlotAny (v : Memref sig .scVector .vmem S80x128 .f32) : sProp 𝕄 :=
  iprop(∃ fd : Buf (Elt F) (v.view.loc (tV d L)), v.view.loc (tV d L) ↦[v.view.set]{fullShare} fd)

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem slots_split : iprop(∃ f, (tV d L).loc cc0_scratch1 ↦{fullShare} f)
    ⊢ (iprop(SlotAny d L slot0 ∗ SlotAny d L slot1 ∗ SlotAny d L slot2 ∗ SlotAny d L slot3) : sProp 𝕄) := by
  iintro ⟨%f, H⟩
  ihave H := (Entails.of_eq (show ((tV d L).loc cc0_scratch1 ↦{fullShare} f : sProp 𝕄)
      = bigSep Finset.univ fun p : Fin 4 => (tV d L).loc cc0_scratch1 ↦[slotSet p]{fullShare} f from by
    rw [← pointsTo_biUnion Finset.univ (ℓ := (tV d L).loc cc0_scratch1) slotSet slots_disjoint, slots_cover])) $$ H
  ihave H := (Entails.of_eq (bigSep_four _)) $$ H
  icases H with ⟨H0, H1, H2, H3⟩
  unfold SlotAny
  rw [slot0_set, slot1_set, slot2_set, slot3_set]
  isplitl [H0]; · iexists f; iexact H0
  isplitl [H1]; · iexists f; iexact H1
  isplitl [H2]; · iexists f; iexact H2
  iexists f; iexact H3

theorem slots_join : (iprop(SlotAny d L slot0 ∗ SlotAny d L slot1 ∗ SlotAny d L slot2 ∗ SlotAny d L slot3) : sProp 𝕄)
    ⊢ iprop(∃ f, (tV d L).loc cc0_scratch1 ↦{fullShare} f) := by
  unfold SlotAny
  rw [slot0_set, slot1_set, slot2_set, slot3_set]
  iintro ⟨⟨%f0, H0⟩, ⟨%f1, H1⟩, ⟨%f2, H2⟩, %f3, H3⟩
  let fs : Fin 4 → Buf (Elt F) ((tV d L).loc cc0_scratch1) := fun | 0 => f0 | 1 => f1 | 2 => f2 | 3 => f3
  ihave H := (Entails.of_eq (bigSep_four (fun p : Fin 4 => (tV d L).loc cc0_scratch1 ↦[slotSet p]{fullShare} fs p)).symm) $$ [H0 H1 H2 H3]
  · isplitl [H0]; · iexact H0
    isplitl [H1]; · iexact H1
    isplitl [H2]; · iexact H2
    iexact H3
  ihave H := (pointsTo_biUnion_join (ℓ := (tV d L).loc cc0_scratch1) (q := fullShare) (Val := Elt F) Finset.univ slotSet fs (fs 0) slots_disjoint) $$ H
  icases H with ⟨%g, -, H⟩
  rw [slots_cover]
  iexists g; iexact H

theorem quarters {ℓ : Loc nD τ sig} (I : Finset (Idx ℓ)) (f : Buf (Elt F) ℓ) (q : PosShare TreeShare) :
    (ℓ ↦[I]{q} f : sProp 𝕄) ⊣⊢ iprop((ℓ ↦[I]{quarter q 0} f) ∗ (ℓ ↦[I]{quarter q 1} f) ∗ (ℓ ↦[I]{quarter q 2} f) ∗ ℓ ↦[I]{quarter q 3} f) := by
  have h := fun q : PosShare TreeShare => (show (ℓ ↦[I]{q} f : sProp 𝕄) = iprop((ℓ ↦[I]{q.left} f) ∗ ℓ ↦[I]{q.right} f) from
    BI.Entails.antisymm (pointsTo_share (PosShare.mem_left_op_right q)).1 (pointsTo_share (PosShare.mem_left_op_right q)).2)
  have e : (ℓ ↦[I]{q} f : sProp 𝕄) = iprop((ℓ ↦[I]{quarter q 0} f) ∗ (ℓ ↦[I]{quarter q 1} f) ∗ (ℓ ↦[I]{quarter q 2} f) ∗ ℓ ↦[I]{quarter q 3} f) := by
    rw [h q, h q.left, h q.right]
    have h1 : iprop(((ℓ ↦[I]{q.left.left} f) ∗ ℓ ↦[I]{q.left.right} f) ∗ (ℓ ↦[I]{q.right.left} f) ∗ ℓ ↦[I]{q.right.right} f)
        ⊢ (iprop((ℓ ↦[I]{q.left.left} f) ∗ (ℓ ↦[I]{q.left.right} f) ∗ (ℓ ↦[I]{q.right.left} f) ∗ ℓ ↦[I]{q.right.right} f) : sProp 𝕄) := by
      iintro ⟨⟨H0, H1⟩, H2, H3⟩
      isplitl [H0]; · iexact H0
      isplitl [H1]; · iexact H1
      isplitl [H2]; · iexact H2
      iexact H3
    have h2 : iprop((ℓ ↦[I]{q.left.left} f) ∗ (ℓ ↦[I]{q.left.right} f) ∗ (ℓ ↦[I]{q.right.left} f) ∗ ℓ ↦[I]{q.right.right} f)
        ⊢ (iprop(((ℓ ↦[I]{q.left.left} f) ∗ ℓ ↦[I]{q.left.right} f) ∗ (ℓ ↦[I]{q.right.left} f) ∗ ℓ ↦[I]{q.right.right} f) : sProp 𝕄) := by
      iintro ⟨H0, H1, H2, H3⟩
      isplitl [H0 H1]
      · isplitl [H0]; · iexact H0
        iexact H1
      isplitl [H2]; · iexact H2
      iexact H3
    exact BI.Entails.antisymm h1 h2
  exact ⟨Entails.of_eq e, Entails.of_eq e.symm⟩

end Buffers

/-! ## The task -/

section Run

variable {Dv : Defs nD τ sig (Elt F) Λ₀} (d : Dev nD) (L : grid0.Coords)

/-- The tile's six semaphores at zero. -/
abbrev Sems0 : sProp 𝕄 :=
  iprop(semVal (tV d L, SemLoc.dma cc0_scratch3.sem) 0 ∗ semVal (tV d L, SemLoc.dma cc0_scratch4.sem) 0 ∗ semVal (tV d L, SemLoc.dma cc0_scratch5.sem) 0
    ∗ semVal (tV d L, SemLoc.dma cc0_scratch6.sem) 0 ∗ semVal (tV d L, SemLoc.dma cc0_scoped0.sem) 0 ∗ semVal (tV d L, SemLoc.dma cc0_scoped1.sem) 0)

/-- The tile's three scratch buffers, at something. -/
abbrev Scratch : sProp 𝕄 :=
  iprop((∃ f, (tV d L).loc cc0_scratch0 ↦{fullShare} f) ∗ (∃ f, (tV d L).loc cc0_scratch1 ↦{fullShare} f) ∗ ∃ f, (tV d L).loc cc0_scratch2 ↦{fullShare} f)

/-- What the tile is handed of the operands: its list, a share of the table, its block of the pooled rows. -/
abbrev Operands (qt : PosShare TreeShare) (tx : S32x128x80.Idx → BitVec 32) (tb : S100000x128.Idx → F .f32) (g : S16384x128.Idx → F .f32) : sProp 𝕄 :=
  iprop(((textRowM L).view.loc (tV d L) ↦[(textRowM L).view.set]{fullShare} tx) ∗ (tabM.view.loc (tV d L) ↦{qt} tb)
    ∗ (outBlkM L).view.loc (tV d L) ↦[(outBlkM L).view.set]{fullShare} g)

set_option maxHeartbeats 4000000 in
/-- The task makes its block of the pooled rows right, when every word of its list names a row of the table. -/
theorem tile_run (qt : PosShare TreeShare) (tx : S32x128x80.Idx → BitVec 32) (tb : S100000x128.Idx → F .f32) (g : S16384x128.Idx → F .f32)
    (htx : ∀ j, (tx j).toNat < 100000) (O : CellTallies nD τ sig (HIx 1)) (W : Waits sig (HIx 1)) (hO : ∀ g, O g none = 0) :
    iprop(levAts (K (F := F)).L (K (F := F)).lev ∗ Operands d L qt tx tb g ∗ Scratch d L ∗ Sems0 d L ∗ owes (tV d L) O W)
      ⊢ wp frame (wpE Dv 𝒱₀ (tV d L) none) Set.univ
          (cc0__pool L textM (Memref.isWhole_whole _) tabM (Memref.isWhole_whole _) outM (Memref.isWhole_whole _) idxM (Memref.isWhole_whole _)
            rowsM (Memref.isWhole_whole _) poolM (Memref.isWhole_whole _) cc0_scratch3 cc0_scratch4 cc0_scratch5 cc0_scratch6 cc0_scoped0 cc0_scoped1)
          fun _ => iprop(Operands d L qt tx tb (pooledAll tx tb) ∗ Scratch d L ∗ Sems0 d L
            ∗ ∃ W', ⌜∀ p ∈ W', p ∈ W ∨ p.2 = none⌝ ∗ owes (tV d L) O W') := by
  simp only [cc0__pool_eq_skeleton]; unfold cc0__pool_skel
  simp only [k0_part491_eq_skeleton]; unfold k0_part491_skel
  iintro ⟨#Hlv, ⟨Htx, Htb, Ho⟩, ⟨⟨%fi, Hi⟩, Hr, %fp, Hp⟩, ⟨Hs0, Hs1, Hs2, Hs3, Ha, Hb⟩, HO⟩
  ihave Hmw := (show levAts (K (F := F)).L (K (F := F)).lev ⊢ Transfers.MayWaits (tV d L) (default : HIx 1) O from
    (K (F := F)).mayWaits_none (thr := tV d L) hO) $$ Hlv
  ihave Hi := (Entails.of_eq (show ((tV d L).loc cc0_scratch0 ↦{fullShare} fi : sProp 𝕄) = idxM.view.loc (tV d L) ↦{fullShare} fi from rfl)) $$ Hi
  sl_exec
  have hfo : ∀ j, (fo (F := F) L tx j).toNat < 100000 := fun j => by rw [fo_apply]; exact htx _
  ihave Hi := (Entails.of_eq (show (idxM.view.loc (tV d L) ↦{fullShare} View.write (Elt F) idxM.view fi (tile_run.sl.dma0 L tx) Finset.univ : sProp 𝕄)
      = idxM.view.loc (tV d L) ↦{fullShare} fo (F := F) L tx from by rw [View.write_whole_univ]; rfl)) $$ Hi
  ihave Hi := (quarters Finset.univ (fo (F := F) L tx) fullShare).1 $$ Hi
  icases Hi with ⟨Hi0, Hi1, Hi2, Hi3⟩
  ihave Htb := (quarters Finset.univ tb qt).1 $$ Htb
  icases Htb with ⟨Ht0, Ht1, Ht2, Ht3⟩
  ihave Hr := (slots_split d L) $$ Hr
  icases Hr with ⟨Hr0, Hr1, Hr2, Hr3⟩
  iapply (issue (d := d) (L := L) (v := slot0) (sem := cc0_scratch3.sem) (qt := quarter qt 0) (qo := quarter fullShare 0) (tb := tb) slot0_credit hfo 0 _ _ rfl) $$ [Hr0 Ht0 Hi0 Hs0]
  · unfold Idle
    isplitl [Hr0]; · iexact Hr0
    isplitl [Ht0]; · iexact Ht0
    isplitl [Hi0]; · iexact Hi0
    iexact Hs0
  iintro H0
  sl_exec
  iapply (issue (d := d) (L := L) (v := slot1) (sem := cc0_scratch4.sem) (qt := quarter qt 1) (qo := quarter fullShare 1) (tb := tb) slot1_credit hfo 1 _ _ rfl) $$ [Hr1 Ht1 Hi1 Hs1]
  · unfold Idle
    isplitl [Hr1]; · iexact Hr1
    isplitl [Ht1]; · iexact Ht1
    isplitl [Hi1]; · iexact Hi1
    iexact Hs1
  iintro H1
  iapply (issue (d := d) (L := L) (v := slot2) (sem := cc0_scratch5.sem) (qt := quarter qt 2) (qo := quarter fullShare 2) (tb := tb) slot2_credit hfo 2 _ _ rfl (hsp := Or.inl rfl) (hr := by decide)) $$ [Hr2 Ht2 Hi2 Hs2]
  · unfold Idle
    isplitl [Hr2]; · iexact Hr2
    isplitl [Ht2]; · iexact Ht2
    isplitl [Hi2]; · iexact Hi2
    iexact Hs2
  iintro H2
  iapply (issue (d := d) (L := L) (v := slot3) (sem := cc0_scratch6.sem) (qt := quarter qt 3) (qo := quarter fullShare 3) (tb := tb) slot3_credit hfo 3 _ _ rfl (hsp := Or.inl rfl) (hr := by decide)) $$ [Hr3 Ht3 Hi3 Hs3]
  · unfold Idle
    isplitl [Hr3]; · iexact Hr3
    isplitl [Ht3]; · iexact Ht3
    isplitl [Hi3]; · iexact Hi3
    iexact Hs3
  iintro H3
  sl_for (fun n _ => iprop(levAts (K (F := F)).L (K (F := F)).lev ∗ Inv d L qt tb (fo (F := F) L tx) O (insert (SemLoc.dma cc0_scoped0.sem, default) W) n)) $$ [Hp HO H0 H1 H2 H3]
  · intro t acc
    iintro ⟨#Hl, HI⟩
    ihave Hw := (trip (Dv := Dv) hfo O (insert (SemLoc.dma cc0_scoped0.sem, default) W) hO t) $$ [HI]
    · isplitr; · iexact Hl
      iexact HI
    iapply (wp_wand_r frame _ _)
    isplitl [Hw]; · iexact Hw
    iintro %a HI
    isplitr; · iexact Hl
    iexact HI
  · isplitr; · iexact Hlv
    unfold Inv PoolSt Owes
    isplitl [Hp]
    · iexists fp
      isplitr
      · ipureintro; intro y hy; omega
      iexact Hp
    isplitl [HO]
    · iexists _
      isplitr
      swap; · iexact HO
      ipureintro; exact fun p hp => .inl hp
    unfold Slots
    rw [show SlotSt d L slot0 cc0_scratch3.sem (quarter qt 0) (quarter fullShare 0) tb (fo (F := F) L tx) (4 * 0) = _ from dif_pos (by decide),
      show SlotSt d L slot1 cc0_scratch4.sem (quarter qt 1) (quarter fullShare 1) tb (fo (F := F) L tx) (4 * 0 + 1) = _ from dif_pos (by decide),
      show SlotSt d L slot2 cc0_scratch5.sem (quarter qt 2) (quarter fullShare 2) tb (fo (F := F) L tx) (4 * 0 + 2) = _ from dif_pos (by decide),
      show SlotSt d L slot3 cc0_scratch6.sem (quarter qt 3) (quarter fullShare 3) tb (fo (F := F) L tx) (4 * 0 + 3) = _ from dif_pos (by decide)]
    isplitl [H0]; · iexact H0
    isplitl [H1]; · iexact H1
    isplitl [H2]; · iexact H2
    iexact H3
  iintro %acc ⟨-, HI⟩
  rw [show Scf.trips k0_t1_loop.lb k0_t1_loop.ub k0_t1_loop.st = 32 from trips_eq]
  unfold Inv PoolSt Owes Slots
  rw [show SlotSt d L slot0 cc0_scratch3.sem (quarter qt 0) (quarter fullShare 0) tb (fo (F := F) L tx) (4 * 32) = _ from dif_neg (by decide),
    show SlotSt d L slot1 cc0_scratch4.sem (quarter qt 1) (quarter fullShare 1) tb (fo (F := F) L tx) (4 * 32 + 1) = _ from dif_neg (by decide),
    show SlotSt d L slot2 cc0_scratch5.sem (quarter qt 2) (quarter fullShare 2) tb (fo (F := F) L tx) (4 * 32 + 2) = _ from dif_neg (by decide),
    show SlotSt d L slot3 cc0_scratch6.sem (quarter qt 3) (quarter fullShare 3) tb (fo (F := F) L tx) (4 * 32 + 3) = _ from dif_neg (by decide)]
  icases HI with ⟨⟨%fp', %hfp, Hp⟩, ⟨%W', %hW', HO⟩, H0, H1, H2, H3⟩
  unfold Idle
  icases H0 with ⟨Hr0, Ht0, Hi0, Hs0⟩
  icases H1 with ⟨Hr1, Ht1, Hi1, Hs1⟩
  icases H2 with ⟨Hr2, Ht2, Hi2, Hs2⟩
  icases H3 with ⟨Hr3, Ht3, Hi3, Hs3⟩
  ihave Hi := (quarters (ℓ := idxM.view.loc (tV d L)) Finset.univ (fo (F := F) L tx) fullShare).2 $$ [Hi0 Hi1 Hi2 Hi3]
  · isplitl [Hi0]; · iexact Hi0
    isplitl [Hi1]; · iexact Hi1
    isplitl [Hi2]; · iexact Hi2
    iexact Hi3
  ihave Htb := (quarters (ℓ := tabM.view.loc (tV d L)) Finset.univ tb qt).2 $$ [Ht0 Ht1 Ht2 Ht3]
  · isplitl [Ht0]; · iexact Ht0
    isplitl [Ht1]; · iexact Ht1
    isplitl [Ht2]; · iexact Ht2
    iexact Ht3
  ihave Hr := (slots_join d L) $$ [Hr0 Hr1 Hr2 Hr3]
  · isplitl [Hr0]; · iexact Hr0
    isplitl [Hr1]; · iexact Hr1
    isplitl [Hr2]; · iexact Hr2
    iexact Hr3
  sl_exec
  have hout : ∀ i ∈ (outBlkM L).view.set, (outBlkM L).view.writes (Elt F) g [⟨Rect.whole S512x128, tile_run.sl.dma0_1 d L fp'⟩] i = pooledAll tx tb i := by
    intro i hi
    obtain ⟨x, -, rfl⟩ := Finset.mem_map.1 hi
    have he : (outBlkM L).view.emb x = ((outBlkM L).view.slice (Rect.whole S512x128)).emb x :=
      congrArg (outBlkM L).view.emb (Rect.emb_whole_apply S512x128 x).symm
    have hx : (x 0).val < 512 := (x 0).isLt
    have h := (hfp x (by omega)).trans (pooledTile_fo L tx tb x)
    rw [he] at h ⊢
    rw [View.writes_singleton, View.write_emb_of_mem _ _ (Finset.mem_univ _), cast_eq]
    exact h
  sl_step
  isplitl [Htx Htb Ho]
  · isplitl [Htx]; · iexact Htx
    isplitl [Htb]; · iexact Htb
    iapply (Entails.of_eq (pointsTo_congr hout)) $$ Ho
  isplitl [Hi Hr Hp]
  · isplitl [Hi]; · iexists _; iexact Hi
    isplitl [Hr]; · iexact Hr
    iexists _; iexact Hp
  isplitl [Hs0 Hs1 Hs2 Hs3 Ha Hb]
  · isplitl [Hs0]; · iexact Hs0
    isplitl [Hs1]; · iexact Hs1
    isplitl [Hs2]; · iexact Hs2
    isplitl [Hs3]; · iexact Hs3
    isplitl [Ha]; · iexact Ha
    iexact Hb
  iexists _; isplitr
  swap; · iexact HO
  ipureintro; intro p hp
  rcases Finset.mem_insert.mp hp with hp | hp; · exact .inr (hp ▸ rfl)
  rcases hW' p hp with hp | hp
  · rcases Finset.mem_insert.mp hp with hp | hp; · exact .inr (hp ▸ rfl)
    exact .inl hp
  · exact .inr hp

end Run

end Cert.Proof.Tile

end
-- ==== Proof.Setting.lean ====
/-
  The setting of the launch's proof: the idealized program as the launch theorem sees it, its resource algebra, and the
  tile's task carried over to it (the two programs' tasks are one text).
-/
module

public import proofs.«01_k».proof.Proof.Tile
public import proofs.«01_k».proof.Proof.Gen.KernelIdeal
public import proofs.«01_k».proof.Proof.Gen.KernelIdeal.Launch
public import proofs.«01_k».proof.Proof.Gen.KernelIdeal.Skeleton

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resource algebra: the launch's handshakes, the pallas_call's pipeline, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev tV (d : Dev nD) (L : grid0.Coords) : Thread nD τ := V d ((L 0).castLE hcore0) ((L 1).castLE hsub0)

abbrev textM : Memref sig .scVector .hbm S32x128x80 .i32 := Memref.whole main_v0_scv
abbrev tabM : Memref sig .scVector .hbm S100000x128 .f32 := Memref.whole main_arg1_scv
abbrev outM : Memref sig .scVector .hbm S16384x128 .f32 := Memref.whole main_v1_scv
abbrev textRowM (L : grid0.Coords) : Memref sig .scVector .hbm S128x80 .i32 :=
  (textM.slice (Rect.unit (s := S32x128x80) (k0_off1 L) S1x128x80.size (k0_off1_inb L)) (fun _ => rfl)).squeeze S128x80 squeezes_S1x128x80_S128x80
abbrev outBlkM (L : grid0.Coords) : Memref sig .scVector .hbm S512x128 .f32 :=
  outM.slice (Rect.unit (s := S16384x128) (k0_off15 L) S512x128.size (k0_off15_inb L)) (fun _ => rfl)

/-- All the pooled rows (`Tile.pooledAll`). -/
def pooled (tx : S32x128x80.Idx → BitVec 32) (tb : S100000x128.Idx → F .f32) : S16384x128.Idx → F .f32 := Tile.pooledAll tx tb

section Run

variable (d : Dev nD) (L : grid0.Coords)

/-- The tile's six semaphores at zero. -/
abbrev Sems0 : sProp 𝕄 :=
  iprop(semVal (tV d L, SemLoc.dma cc0_scratch3.sem) 0 ∗ semVal (tV d L, SemLoc.dma cc0_scratch4.sem) 0 ∗ semVal (tV d L, SemLoc.dma cc0_scratch5.sem) 0
    ∗ semVal (tV d L, SemLoc.dma cc0_scratch6.sem) 0 ∗ semVal (tV d L, SemLoc.dma cc0_scoped0.sem) 0 ∗ semVal (tV d L, SemLoc.dma cc0_scoped1.sem) 0)

/-- The tile's three scratch buffers, at something. -/
abbrev Scratch : sProp 𝕄 :=
  iprop((∃ f, (tV d L).loc cc0_scratch0 ↦{fullShare} f) ∗ (∃ f, (tV d L).loc cc0_scratch1 ↦{fullShare} f) ∗ ∃ f, (tV d L).loc cc0_scratch2 ↦{fullShare} f)

/-- What the tile is handed of the operands: its list, a share of the table, its block of the pooled rows. -/
abbrev Operands (qt : PosShare TreeShare) (tx : S32x128x80.Idx → BitVec 32) (tb : S100000x128.Idx → F .f32) (g : S16384x128.Idx → F .f32) : sProp 𝕄 :=
  iprop(((textRowM L).view.loc (tV d L) ↦[(textRowM L).view.set]{fullShare} tx) ∗ (tabM.view.loc (tV d L) ↦{qt} tb)
    ∗ (outBlkM L).view.loc (tV d L) ↦[(outBlkM L).view.set]{fullShare} g)

set_option maxHeartbeats 8000000 in
set_option maxRecDepth 65536 in
/-- The task makes its block of the pooled rows right, when every word of its list names a row of the table. -/
theorem tile_run (qt : PosShare TreeShare) (tx : S32x128x80.Idx → BitVec 32) (tb : S100000x128.Idx → F .f32) (g : S16384x128.Idx → F .f32)
    (htx : ∀ j, (tx j).toNat < 100000) (O : CellTallies nD τ sig (HIx 1)) (W : Waits sig (HIx 1)) (hO : ∀ g, O g none = 0) :
    iprop(levAts (K (F := F)).L (K (F := F)).lev ∗ Operands d L qt tx tb g ∗ Scratch d L ∗ Sems0 d L ∗ owes (tV d L) O W)
      ⊢ wp frame (wpE (defs₀ (F := F)) 𝒱₀ (tV d L) none) Set.univ
          (cc0__pool L textM (Memref.isWhole_whole _) tabM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scoped0 cc0_scoped1)
          fun _ => iprop(Operands d L qt tx tb (pooled tx tb) ∗ Scratch d L ∗ Sems0 d L
            ∗ ∃ W', ⌜∀ p ∈ W', p ∈ W ∨ p.2 = none⌝ ∗ owes (tV d L) O W') :=
  Tile.tile_run (Dv := defs₀ (F := F)) d L qt tx tb g htx O W hO

end Run

end Cert.Proof.Launch

end
-- ==== Proof.Deal.lean ====
/-
  How the launch deals the pooling call's operands to the thirty-two tiles: each its row of the lists, a share of the
  table and its block of the pooled rows; and each tile's obligation at what it is dealt.
-/
module

public import proofs.«01_k».proof.Proof.Setting
public import Idealize.ShloMosaic.Lib.ShareLeaves
public import Idealize.ShloMosaic.Lib.SparseCore.Quiescent
public import Idealize.ShloMosaic.Lib.Pipeline.Kit

@[expose] public section

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The launch's own semaphores are apart and unscoped, and no SparseCore's buffer is shared among tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-- The handshakes' part of the resource algebra. -/
abbrev EH : Emb UH (MT nD τ sig (HIx 1) (Elt F) ℕ UU ℕ) := embL

abbrev tLoc (d : Dev nD) : Loc nD τ sig := (SparseCore.T d).loc main_v0
abbrev bLoc (d : Dev nD) : Loc nD τ sig := (SparseCore.T d).loc main_arg1
abbrev oLoc (d : Dev nD) : Loc nD τ sig := (SparseCore.T d).loc main_v1

/-! ## The rows of the lists and of the pooled rows, by worker -/

/-- Worker `w`'s lists. -/
def textSet (w : Fin 32) : Finset S32x128x80.Idx := Finset.univ.filter fun x => (x 0).val = w.val
/-- Worker `w`'s block of 512 pooled rows. -/
def outSet (w : Fin 32) : Finset S16384x128.Idx := Finset.univ.filter fun y => (y 0).val / 512 = w.val

theorem textSets_disjoint : ∀ i ∈ (Finset.univ : Finset (Fin 32)), ∀ j ∈ (Finset.univ : Finset (Fin 32)), i ≠ j → Disjoint (textSet i) (textSet j) := by
  intro i _ j _ h
  refine Finset.disjoint_left.mpr fun x hx hy => h (Fin.ext ?_)
  exact (Finset.mem_filter.mp hx).2.symm.trans (Finset.mem_filter.mp hy).2
theorem outSets_disjoint : ∀ i ∈ (Finset.univ : Finset (Fin 32)), ∀ j ∈ (Finset.univ : Finset (Fin 32)), i ≠ j → Disjoint (outSet i) (outSet j) := by
  intro i _ j _ h
  refine Finset.disjoint_left.mpr fun x hx hy => h (Fin.ext ?_)
  exact (Finset.mem_filter.mp hx).2.symm.trans (Finset.mem_filter.mp hy).2
theorem textSets_cover : (Finset.univ : Finset (Fin 32)).biUnion textSet = Finset.univ := by
  refine Finset.eq_univ_of_forall fun x => Finset.mem_biUnion.mpr ⟨⟨(x 0).val, (x 0).isLt⟩, Finset.mem_univ _, ?_⟩
  exact Finset.mem_filter.mpr ⟨Finset.mem_univ _, rfl⟩
theorem outSets_cover : (Finset.univ : Finset (Fin 32)).biUnion outSet = Finset.univ := by
  refine Finset.eq_univ_of_forall fun y => ?_
  have h : (y 0).val < 16384 := (y 0).isLt
  exact Finset.mem_biUnion.mpr ⟨⟨(y 0).val / 512, by omega⟩, Finset.mem_univ _, Finset.mem_filter.mpr ⟨Finset.mem_univ _, rfl⟩⟩

/-- The lists a tile reads are its worker's. -/
theorem set_textRow (L : grid0.Coords) : (textRowM L).view.set = textSet (Tile.worker L) := by
  ext x
  unfold View.set textSet
  rw [Finset.mem_map, Finset.mem_filter]
  constructor
  · rintro ⟨z, -, rfl⟩
    exact ⟨Finset.mem_univ _, congrArg Fin.val (congrFun (Tile.emb_textRow L z) 0)⟩
  · rintro ⟨-, h⟩
    refine ⟨fun | 0 => x 1 | 1 => x 2, Finset.mem_univ _, (Tile.emb_textRow L _).trans (funext fun a => ?_)⟩
    match a with
    | 0 => exact Fin.ext h.symm
    | 1 => rfl
    | 2 => rfl

/-- The block a tile writes is its worker's. -/
theorem set_outBlk (L : grid0.Coords) : (outBlkM L).view.set = outSet (Tile.worker L) := by
  ext y
  unfold View.set outSet
  rw [Finset.mem_map, Finset.mem_filter]
  constructor
  · rintro ⟨z, -, rfl⟩
    have h : (z 0).val < 512 := (z 0).isLt
    have e := (Tile.emb_outBlk L z).1
    exact ⟨Finset.mem_univ _, show (((Tile.outBlkM L).view.emb z : S16384x128.Idx) 0).val / 512 = _ by rw [e]; omega⟩
  · rintro ⟨-, h⟩
    have hm : (y 0).val % 512 < 512 := Nat.mod_lt _ (by decide)
    refine ⟨(fun | 0 => ⟨(y 0).val % 512, hm⟩ | 1 => y 1 : S512x128.Idx), Finset.mem_univ _, funext fun a => ?_⟩
    have e := Tile.emb_outBlk L (fun | 0 => ⟨(y 0).val % 512, hm⟩ | 1 => y 1 : S512x128.Idx)
    match a with
    | 0 =>
      refine Fin.ext (e.1.trans ?_)
      show 512 * (Tile.worker L).val + (y 0).val % 512 = (y 0).val
      rw [← h]; omega
    | 1 => exact e.2

/-! ## What the handshakes carry -/

/-- Worker `w`'s operands on device `d`: its lists, its share of the table, its block of the pooled rows at `g`. -/
def part (d : Dev nD) (tx : S32x128x80.Idx → BitVec 32) (tb : S100000x128.Idx → F .f32) (g : S16384x128.Idx → F .f32) (w : Fin 32) : sProp 𝕄 :=
  iprop((tLoc d ↦[textSet w]{fullShare} tx) ∗ (bLoc d ↦{leaf 5 fullShare w} tb) ∗ oLoc d ↦[outSet w]{fullShare} g)

instance part_storable (d : Dev nD) (tx : S32x128x80.Idx → BitVec 32) (tb : S100000x128.Idx → F .f32) (g : S16384x128.Idx → F .f32) (w : Fin 32) :
    BI.Storable (upEmb : UEmb _ 𝕄) (part d tx tb g w) := by
  unfold part; infer_instance

/-- The worker on tile `i` of SparseCore `c`. -/
def wk (c : Fin 2) (i : Fin 16) : Fin 32 := ⟨2 * i.val + c.val, by omega⟩

/-- SparseCore `c`'s operands: its sixteen workers'. -/
def half (d : Dev nD) (tx : S32x128x80.Idx → BitVec 32) (tb : S100000x128.Idx → F .f32) (g : S16384x128.Idx → F .f32) (c : Fin 2) : sProp 𝕄 :=
  bigSep Finset.univ fun i : Fin ((K (F := F)).nSub 0) => part d tx tb g (wk c (Fin.cast nSub_zero i))

instance half_storable (d : Dev nD) (tx : S32x128x80.Idx → BitVec 32) (tb : S100000x128.Idx → F .f32) (g : S16384x128.Idx → F .f32) (c : Fin 2) :
    BI.Storable (upEmb : UEmb _ 𝕄) (half d tx tb g c) := by
  unfold half; infer_instance

/-- The table at the full share is the table at each worker's share. -/
theorem table_shares (d : Dev nD) (tb : Buf (Elt F) (bLoc d)) :
    (bLoc d ↦{fullShare} tb : sProp 𝕄) = bigSep Finset.univ fun w : Fin 32 => bLoc d ↦{leaf 5 fullShare w} tb :=
  pointsTo_leaves Finset.univ tb 5 fullShare

/-- All the call's operands are the two SparseCores'. -/
theorem operands_halves (d : Dev nD) (tx : S32x128x80.Idx → BitVec 32) (tb : S100000x128.Idx → F .f32) (g : S16384x128.Idx → F .f32) :
    (iprop((tLoc d ↦{fullShare} tx) ∗ (bLoc d ↦{fullShare} tb) ∗ oLoc d ↦{fullShare} g) : sProp 𝕄)
      = bigSep Finset.univ fun c : Fin ((K (F := F)).nCore 0) => half d tx tb g (Fin.cast nCore_zero c) := by
  have et : (tLoc d ↦{fullShare} tx : sProp 𝕄) = bigSep Finset.univ fun w : Fin 32 => tLoc d ↦[textSet w]{fullShare} tx := by
    rw [← pointsTo_biUnion Finset.univ (ℓ := tLoc d) textSet textSets_disjoint, textSets_cover]
  have eo : (oLoc d ↦{fullShare} g : sProp 𝕄) = bigSep Finset.univ fun w : Fin 32 => oLoc d ↦[outSet w]{fullShare} g := by
    rw [← pointsTo_biUnion Finset.univ (ℓ := oLoc d) outSet outSets_disjoint, outSets_cover]
  have eb : (bLoc d ↦{fullShare} tb : sProp 𝕄) = bigSep Finset.univ fun w : Fin 32 => bLoc d ↦{leaf 5 fullShare w} tb :=
    table_shares d tb
  rw [et, eo, eb]
  have e : (bigSep Finset.univ fun w : Fin 32 => part d tx tb g w)
      = (bigSep Finset.univ fun c : Fin ((K (F := F)).nCore 0) => half d tx tb g (Fin.cast nCore_zero c) : sProp 𝕄) := by
    rw [bigSep_univ_equiv ((Equiv.prodComm (Fin 2) (Fin 16)).trans finProdFinEquiv : Fin 2 × Fin 16 ≃ Fin 32) (fun w : Fin 32 => part d tx tb g w), bigSep_univ_prod]
    refine bigSep_congr fun c _ => bigSep_congr fun i _ => ?_
    exact congrArg (part d tx tb g) (Fin.ext (show c.val + 2 * i.val = 2 * i.val + c.val from Nat.add_comm _ _))
  rw [← e]
  unfold part
  rw [bigSep_sep', bigSep_sep']

section Deal

-- Per device: the lists, the table and what the pooled rows' buffer holds before the call.
variable (tx : Dev nD → S32x128x80.Idx → BitVec 32) (tb : Dev nD → S100000x128.Idx → F .f32) (g : Dev nD → S16384x128.Idx → F .f32)

/-- The call takes the operands and brings them back, the pooled rows right; each task its worker's part of them. -/
def P : (K (F := F)).Pay (nD := nD) (Val := Elt F) (Name := ℕ) (U := UU) where
  st := fun q d c => match q with | 0 => half d (tx d) (tb d) (g d) (Fin.cast nCore_zero c)
  dn := fun q d c => match q with | 0 => half d (tx d) (tb d) (pooled (tx d) (tb d)) (Fin.cast nCore_zero c)
  go := fun q d c i => match q with | 0 => part d (tx d) (tb d) (g d) (wk (Fin.cast nCore_zero c) (Fin.cast nSub_zero i))
  td := fun q d c i => match q with | 0 => part d (tx d) (tb d) (pooled (tx d) (tb d)) (wk (Fin.cast nCore_zero c) (Fin.cast nSub_zero i))
  x := fun _ _ => iprop(emp)

instance P_storable : (P tx tb g).IsStorable where
  st q d c := match q with | 0 => half_storable d (tx d) (tb d) (g d) (Fin.cast nCore_zero c)
  dn q d c := match q with | 0 => half_storable d (tx d) (tb d) (pooled (tx d) (tb d)) (Fin.cast nCore_zero c)
  go q d c i := match q with | 0 => part_storable d (tx d) (tb d) (g d) (wk (Fin.cast nCore_zero c) (Fin.cast nSub_zero i))
  td q d c i := match q with | 0 => part_storable d (tx d) (tb d) (pooled (tx d) (tb d)) (wk (Fin.cast nCore_zero c) (Fin.cast nSub_zero i))

/-- A SparseCore's operands are its tasks' parts, before and after. -/
theorem vecSplit : (K (F := F)).VecSplit' (P tx tb g) 0 := by
  intro d c
  show half d (tx d) (tb d) (g d) (Fin.cast nCore_zero c) ⊢ |={Set.univ}=> iprop(half d (tx d) (tb d) (g d) (Fin.cast nCore_zero c)
    ∗ (half d (tx d) (tb d) (pooled (tx d) (tb d)) (Fin.cast nCore_zero c) -∗ half d (tx d) (tb d) (pooled (tx d) (tb d)) (Fin.cast nCore_zero c)))
  iintro H; imodintro
  isplitl [H]; · iexact H
  iintro H; iexact H

end Deal

/-! ## The task's obligation -/

section Task

variable (d : Dev nD) (L : grid0.Coords)

/-- The semaphores the task uses. -/
def taskSems : Finset (SemLoc sig) :=
  {SemLoc.dma cc0_scratch3.sem, SemLoc.dma cc0_scratch4.sem, SemLoc.dma cc0_scratch5.sem, SemLoc.dma cc0_scratch6.sem, SemLoc.dma cc0_scoped0.sem, SemLoc.dma cc0_scoped1.sem}
/-- The scratch buffers the task uses. -/
def taskRefs : Finset (Ref sig .scVector) := {cc0_scratch0, cc0_scratch1, cc0_scratch2}

/-- The tile's own semaphores are the task's six and the others. -/
theorem ownSems0_task : (ownSems0 (tV d L) : sProp 𝕄)
    = iprop(Sems0 (F := F) d L ∗ bigSep (ownCells (tV d L) \ taskSems.map ⟨fun s => (tV d L, s), Prod.mk_right_injective _⟩) fun c => semVal c 0) := by
  have hsub : taskSems.map ⟨fun s => (tV d L, s), Prod.mk_right_injective _⟩ ⊆ ownCells (tV d L) := by
    intro c hc
    obtain ⟨s, hs, rfl⟩ := Finset.mem_map.mp hc
    have hall : ∀ s ∈ taskSems, s.isScoped .scVector = true := by decide
    exact mem_ownCells.mpr ⟨rfl, hall s hs⟩
  unfold SparseCore.Cfg.ownSems0
  rw [SparseCore.bigSep_sdiff_split' hsub, bigSep_map]
  unfold taskSems
  rw [SparseCore.bigSep_insert' (by decide), SparseCore.bigSep_insert' (by decide), SparseCore.bigSep_insert' (by decide),
    SparseCore.bigSep_insert' (by decide), SparseCore.bigSep_insert' (by decide), bigSep_singleton]
  rfl

/-- The tile's own buffers are the task's three scratch buffers and the others. -/
theorem ownBufs_task : (ownBufs (tV d L) : sProp 𝕄)
    = iprop(Scratch (F := F) d L ∗ bigSep (ownRefs (τ := τ) (tV d L).2 \ taskRefs.map ⟨(tV d L).2.devRef, Proc.devRef_injective _⟩)
        fun b => iprop(∃ f, ((d, b) : Loc nD τ sig) ↦{fullShare} f)) := by
  have hsub : taskRefs.map ⟨(tV d L).2.devRef, Proc.devRef_injective _⟩ ⊆ ownRefs (τ := τ) (tV d L).2 := by
    intro b hb
    obtain ⟨r, hr, rfl⟩ := Finset.mem_map.mp hb
    have hr' : r = cc0_scratch0 ∨ r = cc0_scratch1 ∨ r = cc0_scratch2 := by simpa [taskRefs] using hr
    rcases hr' with rfl | rfl | rfl <;> exact SparseCore.Cfg.mem_ownRefs_of_owner rfl
  unfold SparseCore.Cfg.ownBufs
  refine (SparseCore.bigSep_sdiff_split' hsub).trans ?_
  rw [bigSep_map]
  unfold taskRefs
  rw [SparseCore.bigSep_insert' (show (cc0_scratch0 : Ref sig .scVector) ∉ ({cc0_scratch1, cc0_scratch2} : Finset (Ref sig .scVector)) by decide),
    SparseCore.bigSep_insert' (show (cc0_scratch1 : Ref sig .scVector) ∉ ({cc0_scratch2} : Finset (Ref sig .scVector)) by decide), bigSep_singleton]
  rfl

/-- A worker's operands are what its tile is handed. -/
theorem part_operands (tx : S32x128x80.Idx → BitVec 32) (tb : S100000x128.Idx → F .f32) (g : S16384x128.Idx → F .f32) :
    part d tx tb g (Tile.worker L) = (Operands d L (leaf 5 fullShare (Tile.worker L)) tx tb g : sProp 𝕄) := by
  unfold part Operands
  rw [set_textRow, set_outBlk]

/-- The task, from its worker's operands and the tile's own buffers and semaphores. -/
theorem task (tx : S32x128x80.Idx → BitVec 32) (tb : S100000x128.Idx → F .f32) (g : S16384x128.Idx → F .f32)
    (htx : ∀ j, (tx j).toNat < 100000) (O : CellTallies nD τ sig (HIx 1)) (W : Waits sig (HIx 1)) (hO : ∀ g, O g none = 0) :
    iprop(levAts (K (F := F)).L (K (F := F)).lev ∗ emp ∗ part d tx tb g (Tile.worker L)
        ∗ scopedBufs (tV d L) ∗ scopedSems0 (tV d L) ∗ owes (tV d L) O W)
      ⊢ wp frame (wpE (defs₀ (F := F)) 𝒱₀ (tV d L) none) Set.univ
          (cc0__pool L textM (Memref.isWhole_whole _) tabM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scoped0 cc0_scoped1)
          fun _ => iprop(part d tx tb (pooled tx tb) (Tile.worker L) ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V facts d _ _, SparseCore.Cfg.scopedSems0_V (Val := Elt F) d _ _, ownSems0_task, ownBufs_task, part_operands, part_operands]
  iintro ⟨#Hlv, -, Hop, ⟨Hscr, Hbufs⟩, ⟨Hsem, Hsems⟩, HO⟩
  iapply (wp_wand_r frame _ _)
  isplitl [Hop Hscr Hsem HO]
  · iapply (tile_run d L (leaf 5 fullShare (Tile.worker L)) tx tb g htx O W hO)
    isplitr; · iexact Hlv
    isplitl [Hop]; · iexact Hop
    isplitl [Hscr]; · iexact Hscr
    isplitl [Hsem]; · iexact Hsem
    iexact HO
  iintro %_ ⟨Hop, Hscr, Hsem, %W', %hW', HO⟩
  isplitl [Hop]; · iexact Hop
  isplitl [Hscr Hbufs]; · isplitl [Hscr] <;> iassumption
  isplitl [Hsem Hsems]; · isplitl [Hsem] <;> iassumption
  iexists W'; isplitr
  · ipureintro; exact fun p hp => (hW' p hp).imp_right Or.inl
  iexact HO

/-- Tile `s` of SparseCore `c`, as the task's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs when the launch calls its task. -/
theorem defs₀_vector (c : Fin τ.nSC) (s : Fin τ.nSub) :
    defs₀ (F := F) (.scVector c s) 0 ()
      = SparseCore.onTile hcore0 hsub0 (fun c s => cc0__pool (coordsV c s) textM (Memref.isWhole_whole _) tabM (Memref.isWhole_whole _) outM (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 cc0_scoped0 cc0_scoped1) ⟨⟩ c s := rfl

set_option maxRecDepth 16384 in
/-- Every tile's task runs from its part to its part with the pooled rows right. -/
theorem tileObl (tx : Dev nD → S32x128x80.Idx → BitVec 32) (tb : Dev nD → S100000x128.Idx → F .f32) (g : Dev nD → S16384x128.Idx → F .f32)
    (htx : ∀ d j, (tx d j).toNat < 100000) : (K (F := F)).TileObl (D (F := F)) 𝒱 (P tx tb g) v₀ 0 := by
  intro d c i O W hO _ _
  simp only [show (P tx tb g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task d (coordsV ⟨_, hci.1⟩ ⟨_, hci.2⟩) (tx d) (tb d) (g d) (htx d) O W hO

end Task

end Cert.Proof.Launch

end
-- ==== Proof.Region.lean ====
/-
  The TensorCore's matrix call: at every grid point the body leaves, in the result's staging buffer, the linear layer of
  the point's 256 pooled rows; over the grid the result's array ends at the linear layer of all of them.
-/
module

public import proofs.«01_k».proof.Proof.Deal
public import proofs.«01_k».proof.Proof.Gen.KernelIdeal.Points
public import proofs.«01_k».proof.Proof.Gen.KernelIdeal.Launch
public import Idealize.ShloMosaic.Lib.Pipeline.Value
public import Idealize.ShloMosaic.Lib.Pipeline.RegionsLoop

@[expose] public section

noncomputable section

namespace Cert.Proof.Launch

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-! ### The values -/

/-- Rows `256 n` to `256 n + 255` of the pooled rows. -/
def rowBlock (x : S16384x128.Idx → F .f32) (n : Fin 64) : Vec F S256x128 .f32 := fun j =>
  have h : (j 0).val < 256 := (j 0).isLt
  x fun
    | 0 => (⟨256 * n.val + (j 0).val, by omega⟩ : Fin 16384)
    | 1 => j 1

/-- The linear layer of every pooled row: each block of 256 rows through the body's arithmetic. -/
def linear (x : S16384x128.Idx → F .f32) (w : Vec F S1024x128 .f32) (b : Vec F S1x1024 .f32) : S16384x1024.Idx → F .f32 := fun i =>
  have h : (i 0).val < 16384 := (i 0).isLt
  k1_pay1 (rowBlock x ⟨(i 0).val / 256, by omega⟩) w b fun
    | 0 => (⟨(i 0).val % 256, by omega⟩ : Fin 256)
    | 1 => i 1

theorem hz : (![0, 0] : Fin 2 → Nat) = fun _ => 0 := funext fun a => by fin_cases a <;> rfl

/-- The body's one store, as a piece. -/
abbrev piece (p : Vec F S256x1024 .f32) : View.Piece (Elt F) S256x1024 .f32 :=
  ⟨Rect.unit (s := S256x1024) ![0, 0] S256x1024.size inb_S256x1024_S256x1024_0_0, p⟩

/-- It covers the staging buffer. -/
theorem cover_piece (p : Vec F S256x1024 .f32) (y : S256x1024.Idx) : ∃ q ∈ [piece p], y ∈ q.1.set :=
  View.cover_of_tiled [piece p] S256x1024.size (by rfl) y

/-! ### The body -/

set_option maxHeartbeats 2000000 in
/-- From the three operands' staging buffers and the result's held whole, the body runs to its return with the
    operands as they were and the result's buffer at the linear layer of the block. -/
theorem body_run (c : Dev nD) (i : grid1.Coords)
    (a1 : Memref sig .tc .vmem S256x128 .f32) (h1 : a1.IsWhole) (a2 : Memref sig .tc .vmem S1024x128 .f32) (h2 : a2.IsWhole)
    (a3 : Memref sig .tc .vmem S1x1024 .f32) (h3 : a3.IsWhole) (a4 : Memref sig .tc .vmem S256x1024 .f32) (h4 : a4.IsWhole)
    (x : Vec F S256x128 .f32) (w : Vec F S1024x128 .f32) (b : Vec F S1x1024 .f32) (Q : PUnit → sProp 𝕄) :
    iprop(owns (c : Thread nD τ) a1 fullShare x ∗ owns (c : Thread nD τ) a2 fullShare w ∗ owns (c : Thread nD τ) a3 fullShare b
        ∗ (∃ g, owns (c : Thread nD τ) a4 fullShare g)
        ∗ (iprop(owns (c : Thread nD τ) a1 fullShare x ∗ owns (c : Thread nD τ) a2 fullShare w ∗ owns (c : Thread nD τ) a3 fullShare b
            ∗ owns (c : Thread nD τ) a4 fullShare (k1_pay1 x w b)) -∗ Q ⟨⟩))
      ⊢ wp frame (wpE (defs₀ (F := F)) Variants.none c none) Set.univ (cc1__mm_body i a1 h1 a2 h2 a3 h3 a4 h4) Q := by
  simp only [cc1__mm_body_eq_skeleton]
  unfold cc1__mm_body_skel
  unfold owns
  iintro ⟨⟨%f1, %hf1, H1⟩, ⟨%f2, %hf2, H2⟩, ⟨%f3, %hf3, H3⟩, ⟨%g, %f4, -, H4⟩, Hk⟩
  subst hf1 hf2 hf3
  sl_exec
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  iexists _
  isplitr; swap; · iexact H4
  ipureintro
  refine (View.read_writes_eq_canon _ _ _ (cover_piece _)).trans ?_
  rw [View.canon_unit_zero hz]
  show k1_pay1 (View.ld (a1.view.read (Elt F) f1) (Rect.unit (s := S256x128) ![0, 0] S256x128.size inb_S256x128_S256x128_0_0))
      (View.ld (a2.view.read (Elt F) f2) (Rect.unit (s := S1024x128) ![0, 0] S1024x128.size inb_S1024x128_S1024x128_0_0))
      (View.ld (a3.view.read (Elt F) f3) (Rect.unit (s := S1x1024) ![0, 0] S1x1024.size inb_S1x1024_S1x1024_0_0)) = _
  rw [View.ld_unit_zero hz, View.ld_unit_zero hz, View.ld_unit_zero hz]

/-! ### The proof data of the call -/

/-- The TensorCore's recorded waits, all at or below level `lim`. -/
abbrev below (lim : ℕ) (c : Dev nD) : Set (SemLoc sig × HIx 1) := {p | (K (F := F)).lev ((c : Thread nD τ), p.1) p.2 ≤ lim}

section Call

variable (lim : ℕ) (V : (c : Dev nD) → (b : Ref sig .tc) → Buf (Elt F) ((c : Thread nD τ).loc b))

/-- The pooled rows' block at point `t`, and the two operands every point takes whole. -/
abbrev rows (c : Dev nD) (t : Fin cfg1.N) : Vec F S256x128 .f32 := ((cfg1.win 0).blk t).view.read (Elt F) (V c main_v1)
abbrev weights (c : Dev nD) (t : Fin cfg1.N) : Vec F S1024x128 .f32 := ((cfg1.win 1).blk t).view.read (Elt F) (V c main_arg2)
abbrev bias (c : Dev nD) (t : Fin cfg1.N) : Vec F S1x1024 .f32 := ((cfg1.win 2).blk t).view.read (Elt F) (V c main_v2)

/-- The call's proof data: the arrays at `V`; the operands' buffers left as fetched, the result's at the linear layer of
    the block; no debt; what was recorded before the call bounded. -/
def dat (c : Dev nD) : Dat τ (Elt F) (HIx 1) ℕ UU ℕ cfg1 c where
  A w := V c (Pipeline.arrRef spec1 w)
  after w t := match w with
    | ⟨0, _⟩ => rows V c t
    | ⟨1, _⟩ => weights V c t
    | ⟨2, _⟩ => bias V c t
    | ⟨3, _⟩ => k1_pay1 (rows V c t) (weights V c t) (bias V c t)
  Φ _ := Pipeline.scopedRest (Ix := HIx 1) (Name := ℕ) (U := UU) (Lvl := ℕ) (Val := Elt F) spec1 c
  q _ := fullShare
  owed _ := 0
  recorded _ := below (F := F) lim c

theorem after0 (c : Dev nD) (t : Fin cfg1.N) : (dat lim V c).after 0 t = rows V c t := by dsimp only [dat]
theorem after1 (c : Dev nD) (t : Fin cfg1.N) : (dat lim V c).after 1 t = weights V c t := by dsimp only [dat]
theorem after2 (c : Dev nD) (t : Fin cfg1.N) : (dat lim V c).after 2 t = bias V c t := by dsimp only [dat]
theorem after3 (c : Dev nD) (t : Fin cfg1.N) : (dat lim V c).after 3 t = k1_pay1 (rows V c t) (weights V c t) (bias V c t) := by dsimp only [dat]

/-- The operands' buffers hold their blocks when the body runs. -/
theorem before0 (c : Dev nD) (t : Fin cfg1.N) (d) : (dat lim V c).before 0 t d = rows V c t :=
  (dat lim V c).before_in_eq_fetched 0 rfl (fun _ => rfl) (fun _ _ _ => rfl) (fun t => by rw [after0]; rfl) t d
theorem before1 (c : Dev nD) (t : Fin cfg1.N) (d) : (dat lim V c).before 1 t d = weights V c t :=
  (dat lim V c).before_in_eq_fetched 1 rfl (fun _ => rfl) (fun _ _ _ => rfl) (fun t => by rw [after1]; rfl) t d
theorem before2 (c : Dev nD) (t : Fin cfg1.N) (d) : (dat lim V c).before 2 t d = bias V c t :=
  (dat lim V c).before_in_eq_fetched 2 rfl (fun _ => rfl) (fun _ _ _ => rfl) (fun t => by rw [after2]; rfl) t d

/-- The body's row of the kernels' table. -/
theorem defs₀_tc (t : Fin cfg1.N) : defs₀ (F := F) .tc cfg1.body (cfg1.bodyArgs t (cfg1.slots t)) = bodyAt1 t := rfl

/-- The body at every point, from what the pipeline hands it to what it takes back. -/
theorem body_obligation (c : Dev nD) : BodyObligation (dat lim V c) (defs₀ (F := F)) 𝒱₀ none Set.univ := fun t => by
  rw [bigSep_W1, bigSep_W1, defs₀_tc]
  simp only [before0, before1, before2, after0, after1, after2, after3]
  rw [show (dat lim V c).Φ t.succ = (dat lim V c).Φ t.castSucc from rfl,
    show (dat lim V c).owesAt none t.succ = (dat lim V c).owesAt none t.castSucc from rfl]
  iintro ⟨HΦ, Ho, ⟨%d0, H0⟩, ⟨%d1, H1⟩, ⟨%d2, H2⟩, H3⟩
  iapply (body_run c (grid1.coords t) _ _ _ _ _ _ _ _ (rows V c t) (weights V c t) (bias V c t) _)
  isplitl [H0]; · iexact H0
  isplitl [H1]; · iexact H1
  isplitl [H2]; · iexact H2
  isplitl [H3]
  · icases H3 with ⟨%d3, H3⟩; iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ### The result's array -/

theorem index_rows : ∀ t : Fin cfg1.N, win1_0.index t 0 = t.val ∧ win1_0.index t 1 = 0 := by decide +kernel
theorem index_weights : ∀ t : Fin cfg1.N, win1_1.index t 0 = 0 ∧ win1_1.index t 1 = 0 := by decide +kernel
theorem index_bias : ∀ t : Fin cfg1.N, win1_2.index t 0 = 0 ∧ win1_2.index t 1 = 0 := by decide +kernel
theorem index_out : ∀ t : Fin cfg1.N, win1_3.index t 0 = t.val ∧ win1_3.index t 1 = 0 := by decide +kernel

/-- A block of the pooled rows is those rows of them; the other two operands' blocks are the arrays. -/
theorem rows_eq (c : Dev nD) (t : Fin cfg1.N) : rows V c t = rowBlock (V c main_v1) (t.cast N_1) := by
  funext j
  refine congrArg (V c main_v1) (funext fun a => Fin.ext ?_)
  have e := (cfg1.win 0).rect_emb_val t j
  match a with
  | ⟨0, _⟩ =>
    refine (e 0).trans ?_
    show win1_0.index t 0 * 256 + (j 0).val = 256 * t.val + (j 0).val
    rw [(index_rows t).1, Nat.mul_comm]
  | ⟨1, _⟩ => exact (cfg1.win 0).rect_emb_val_of_index_zero t 1 (index_rows t).2 j

theorem weights_eq (c : Dev nD) (t : Fin cfg1.N) : weights V c t = V c main_arg2 := by
  funext j
  refine congrArg (V c main_arg2) (funext fun a => Fin.ext ?_)
  match a with
  | ⟨0, _⟩ => exact (cfg1.win 1).rect_emb_val_of_index_zero t 0 (index_weights t).1 j
  | ⟨1, _⟩ => exact (cfg1.win 1).rect_emb_val_of_index_zero t 1 (index_weights t).2 j

theorem bias_eq (c : Dev nD) (t : Fin cfg1.N) : bias V c t = V c main_v2 := by
  funext j
  refine congrArg (V c main_v2) (funext fun a => Fin.ext ?_)
  match a with
  | ⟨0, _⟩ => exact (cfg1.win 2).rect_emb_val_of_index_zero t 0 (index_bias t).1 j
  | ⟨1, _⟩ => exact (cfg1.win 2).rect_emb_val_of_index_zero t 1 (index_bias t).2 j

/-- Where the result's block at point `t` sits. -/
theorem emb_out (t : Fin cfg1.N) (j : S256x1024.Idx) :
    (((cfg1.win 3).rect t).emb j 0 : Nat) = 256 * t.val + (j 0).val ∧ (((cfg1.win 3).rect t).emb j 1 : Nat) = (j 1).val := by
  refine ⟨((cfg1.win 3).rect_emb_val t j 0).trans ?_, (cfg1.win 3).rect_emb_val_of_index_zero t 1 (index_out t).2 j⟩
  show win1_3.index t 0 * 256 + (j 0).val = _
  rw [(index_out t).1, Nat.mul_comm]

/-- What point `t` writes back is its block of the linear layer of all the rows. -/
theorem flushed_out (c : Dev nD) (t : Fin cfg1.N) :
    (dat lim V c).flushed 3 t = ((cfg1.win 3).blk t).view.read (Elt F) (linear (V c main_v1) (V c main_arg2) (V c main_v2)) := by
  show (cfg1.win 3).cut (grid1.coords t) ((dat lim V c).after 3 t) = _
  rw [after3, rows_eq, weights_eq, bias_eq]
  funext j
  have ht : t.val < 64 := N_1 ▸ t.isLt
  have hj : (j 0).val < 256 := (j 0).isLt
  have h0 := (emb_out t j).1
  have h1 := (emb_out t j).2
  show k1_pay1 _ _ _ j = linear _ _ _ (((cfg1.win 3).rect t).emb j)
  unfold linear
  have e0 : (⟨(((cfg1.win 3).rect t).emb j 0 : Nat) / 256, by rw [h0]; omega⟩ : Fin 64) = t.cast N_1 :=
    Fin.ext (show (((cfg1.win 3).rect t).emb j 0 : Nat) / 256 = t.val by rw [h0]; omega)
  refine (congrArg₂ (fun n y => k1_pay1 (rowBlock (V c main_v1) n) (V c main_arg2) (V c main_v2) y) e0 (funext fun a => Fin.ext ?_)).symm
  match a with
  | ⟨0, _⟩ => show (((cfg1.win 3).rect t).emb j 0 : Nat) % 256 = (j 0).val; rw [h0]; omega
  | ⟨1, _⟩ => exact h1

/-- Every row of the result is in one point's block. -/
theorem cover_out (i : S16384x1024.Idx) : ∃ t : Fin cfg1.N, (cfg1.win 3).flush t = true ∧ i ∈ ((cfg1.win 3).blk t).view.set := by
  have h : (i 0).val < 16384 := (i 0).isLt
  have h' : (i 1).val < 1024 := (i 1).isLt
  obtain ⟨t, ht⟩ : ∃ t : Fin cfg1.N, t.val = (i 0).val / 256 := ⟨Fin.cast N_1.symm ⟨(i 0).val / 256, by omega⟩, rfl⟩
  refine ⟨t, flush1_3 _, ?_⟩
  obtain ⟨j, hj⟩ : ∃ j : S256x1024.Idx, (j 0).val = (i 0).val % 256 ∧ (j 1).val = (i 1).val :=
    ⟨fun
      | 0 => (⟨(i 0).val % 256, by omega⟩ : Fin 256)
      | 1 => i 1, rfl, rfl⟩
  have e : i = ((cfg1.win 3).blk t).view.emb j := by
    refine funext fun a => Fin.ext ?_
    match a with
    | ⟨0, _⟩ => refine Eq.trans ?_ (emb_out t j).1.symm; show (i 0).val = 256 * t.val + (j 0).val; rw [ht, hj.1]; omega
    | ⟨1, _⟩ => exact hj.2.symm.trans (emb_out t j).2.symm
  rw [e]
  exact View.emb_mem_set _ _

/-- After the call the result's array is the linear layer of all the pooled rows. -/
theorem final_out (c : Dev nD) : (dat lim V c).arrAt 3 cfg1.N = linear (V c main_v1) (V c main_arg2) (V c main_v2) :=
  (dat lim V c).arrAt_eq_of_cover 3 _ (fun t _ => flushed_out lim V c t) cover_out

/-! ### The call as a region of @main -/

/-- No pipeline has prefetched tables. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat lim V c

/-- The recorded waits of the TensorCore bounded, and nothing owed. -/
abbrev owesBelow (c : Dev nD) : sProp 𝕄 :=
  iprop(∃ W : Waits sig (HIx 1), ⌜(K (F := F)).WBelow (c : Thread nD τ) W lim⌝ ∗ owes (c : Thread nD τ) (0 : CellTallies nD τ sig (HIx 1)) W)

/-- What the buffers hold after the call: the result's at the linear layer. -/
def after (c : Dev nD) (b : Ref sig .tc) : Buf (Elt F) ((c : Thread nD τ).loc b) :=
  if h : b = main_v3 then h ▸ (linear (V c main_v1) (V c main_arg2) (V c main_v2) : Buf (Elt F) ((c : Thread nD τ).loc main_v3)) else V c b

theorem after_out (c : Dev nD) : after V c main_v3 = linear (V c main_v1) (V c main_arg2) (V c main_v2) := dif_pos rfl
theorem after_ne (c : Dev nD) (b : Ref sig .tc) (h : b ≠ main_v3) : after V c b = V c b := dif_neg h

set_option backward.isDefEq.respectTransparency.types false in
/-- The call entered from every unscoped buffer at `V` and left with the result's at the linear layer of the pooled rows. -/
def reg : Pipeline.RegionSeg (pcfgs (F := F)) adm (pdats lim V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation lim V c).loose
  hwaits := Pipeline.hwaits_of_owed_zero _ _ _ _ (K (F := F)).L (K (F := F)).lev 0 fun _ _ => rfl
  pre c := iprop(unscopedBufs c (V c) ∗ owesBelow lim c)
  post c := iprop(unscopedBufs c (after V c) ∗ owesBelow lim c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats lim V) launch1.win launch1.arr_whole c
      ((pdats lim V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats lim V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats lim V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats lim V) ((pdats lim V 0 c).share_full fun _ => rfl) (V c) (after V c) ((pdats lim V 0 c).arrAt · cfg1.N)
      (fun w => by
        fin_cases w
        · exact ((pdats lim V 0 c).arrAt_in 0 rfl _).trans (after_ne V c main_v1 (by decide)).symm
        · exact ((pdats lim V 0 c).arrAt_in 1 rfl _).trans (after_ne V c main_arg2 (by decide)).symm
        · exact ((pdats lim V 0 c).arrAt_in 2 rfl _).trans (after_ne V c main_v2 (by decide)).symm
        · exact (final_out lim V c).trans (after_out V c).symm)
      (fun b hb => after_ne V c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Call

end Cert.Proof.Launch

end
-- ==== Proof.Main.lean ====
/-
  The kernel's program run: @main on the TensorCore reshapes the lists, has the SparseCores pool the rows, reshapes the
  bias and runs the matrix call; what the arrays hold when every thread has returned.
-/
module

public import proofs.«01_k».proof.Proof.Region
public import Idealize.ShloMosaic.Lib.Pipeline.Frame
public import Idealize.ShloMosaic.Lib.StableHlo.Run

@[expose] public section

noncomputable section

namespace Cert.Proof.Launch

open Cert.KernelIdeal Cert.KernelIdeal.Gen

open Idealize.ShloMosaic
open Idealize.ShloMosaic.TcCoe
open Idealize.ShloMosaic.StableHlo (held wp_hlo_within)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ### The buffers, step by step -/

abbrev opLists : HloOp τ sig (Elt F) := StableHlo.reshape main_arg0 main_v0 (rfl : (.i32 : EltTy) = .i32) shapeCasts_S16384x20_S32x128x80
abbrev opBias : HloOp τ sig (Elt F) := StableHlo.reshape main_arg3 main_v2 (rfl : (.f32 : EltTy) = .f32) shapeCasts_S1024_S1x1024

abbrev t' : DevRef τ sig := Proc.devRef .tc (main_v0 : Ref sig .tc)
abbrev b' : DevRef τ sig := Proc.devRef .tc (main_arg1 : Ref sig .tc)
abbrev o' : DevRef τ sig := Proc.devRef .tc (main_v1 : Ref sig .tc)

/-- At the launch; the lists reshaped; the rows pooled; the bias reshaped. -/
def V0 (d : Dev nD) : Valuation τ sig (Elt F) := fun b => m (d, b)
def V1 (d : Dev nD) : Valuation τ sig (Elt F) := (opLists (F := F)).result (V0 m d)

/-- The lists, the table and the pooled rows' array as the pooling call finds them. -/
abbrev lists (d : Dev nD) : S32x128x80.Idx → BitVec 32 := V1 m d t'
abbrev table (d : Dev nD) : S100000x128.Idx → F .f32 := V1 m d b'
abbrev blank (d : Dev nD) : S16384x128.Idx → F .f32 := V1 m d o'

def V2 (d : Dev nD) : Valuation τ sig (Elt F) := Function.update (V1 m d) o' (pooled (lists m d) (table m d) : S16384x128.Idx → F .f32)
def V3 (d : Dev nD) : Valuation τ sig (Elt F) := (opBias (F := F)).result (V2 m d)

/-- Before the matrix call and after it, buffer by buffer. -/
abbrev Vin (d : Dev nD) (b : Ref sig .tc) : Buf (Elt F) ((d : Thread nD τ).loc b) := V3 m d (Proc.devRef .tc b)
abbrev Vout (d : Dev nD) (b : Ref sig .tc) : Buf (Elt F) ((d : Thread nD τ).loc b) := after (Vin m) d b

/-! ### The pooling call's three arrays among the rest -/

abbrev S3 : Finset (DevRef τ sig) := {t', b', o'}

theorem S3_sub : S3 ⊆ ucRefs τ sig := by decide

theorem held_S3 (d : Dev nD) (W : Valuation τ sig (Elt F)) :
    (held (SparseCore.T d) S3 W : sProp 𝕄) = iprop((tLoc d ↦{fullShare} W t') ∗ (bLoc d ↦{fullShare} W b') ∗ oLoc d ↦{fullShare} W o') := by
  unfold held S3
  rw [SparseCore.bigSep_insert' (by decide), SparseCore.bigSep_insert' (by decide), bigSep_singleton]

/-- They and the rest. -/
theorem held_sub (d : Dev nD) (W : Valuation τ sig (Elt F)) :
    (held (SparseCore.T d) (ucRefs τ sig) W : sProp 𝕄) = iprop(held (SparseCore.T d) S3 W ∗ held (SparseCore.T d) (ucRefs τ sig \ S3) W) :=
  StableHlo.held_sub_split _ S3_sub W

theorem held_V1 (d : Dev nD) :
    (held (SparseCore.T d) (ucRefs τ sig) ((opLists (F := F)).result (V0 m d)) : sProp 𝕄)
      = iprop(held (SparseCore.T d) S3 (V1 m d) ∗ held (SparseCore.T d) (ucRefs τ sig \ S3) (V1 m d)) :=
  held_sub d (V1 m d)

theorem V2_t (d : Dev nD) : V2 m d t' = lists m d := Function.update_of_ne (show t' ≠ o' by decide) _ _
theorem V2_b (d : Dev nD) : V2 m d b' = table m d := Function.update_of_ne (show b' ≠ o' by decide) _ _
theorem V2_o (d : Dev nD) : V2 m d o' = pooled (lists m d) (table m d) := Function.update_self _ _ _

/-- The call changes no other buffer. -/
theorem held_rest (d : Dev nD) :
    (held (SparseCore.T d) (ucRefs τ sig \ S3) (V1 m d) : sProp 𝕄) = held (SparseCore.T d) (ucRefs τ sig \ S3) (V2 m d) := by
  unfold held
  refine bigSep_congr fun b hb => ?_
  have h : b ≠ o' := fun e => (Finset.mem_sdiff.mp hb).2 (e ▸ by decide)
  rw [show V2 m d b = V1 m d b from Function.update_of_ne h _ _]

/-! ### @main -/

abbrev EPr : Emb UP 𝕄 := (Emb.inl : Emb UP (UP × Counters)).trans embR

/-- What @main leaves: every unscoped buffer at its last contents. -/
abbrev FIN (d : Dev nD) : sProp 𝕄 := unscopedBufs d (Vout m d)

/-- The pipeline's own launch state. -/
abbrev G (d : Dev nD) : sProp 𝕄 :=
  iprop(Pipeline.cellsGhost (Pipeline.pin (pcfgs (F := F)) adm) EPr 0 d ∗ Pipeline.toksInit (Pipeline.pin (pcfgs (F := F)) adm) EPr 0 d)

theorem Otc_one (d : Dev nD) : (K (F := F)).Otc (nD := nD) (N := 1) d 1 = 0 := by
  unfold SparseCore.Cfg.Otc
  refine Finset.sum_eq_zero fun q _ => ?_
  match q with
  | 0 => rfl

theorem unscoped_held (d : Dev nD) : (unscopedBufs d (fun b => m ((SparseCore.T d).loc b)) : sProp 𝕄) = held (SparseCore.T d) (ucRefs τ sig) (V0 m d) :=
  unscopedBufs_held (Ix := HIx 1) (Name := ℕ) (U := UU) (Lvl := ℕ) d (V0 m d)

/-- What the pooling call hands back: its three arrays, the pooled rows in. -/
theorem dn0 (d : Dev nD) :
    (bigSep Finset.univ fun c : Fin ((K (F := F)).nCore 0) => (P (lists m) (table m) (blank m)).dn 0 d c : sProp 𝕄)
      = iprop((tLoc d ↦{fullShare} lists m d) ∗ (bLoc d ↦{fullShare} table m d) ∗ oLoc d ↦{fullShare} pooled (lists m d) (table m d)) :=
  (operands_halves d (lists m d) (table m d) (pooled (lists m d) (table m d))).symm

/-- The matrix call in @main's own program. -/
theorem matrix_call [∀ e, Nonempty (Elt F e)] (d : Dev nD) (lim : ℕ) (Q : PUnit → sProp 𝕄) :
    iprop((iprop(boundary (d : Thread nD τ) ∗ unscopedBufs d (Vout m d) ∗ owesBelow (F := F) lim d) -∗ Q ⟨⟩)
        ∗ boundary (d : Thread nD τ) ∗ (unscopedBufs d (Vin m d) ∗ owesBelow (F := F) lim d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry (0 : Fin 1))) ())) Q := by
  have hl := (K (F := F)).wp_liftProg (D (F := F)) 𝒱 (SparseCore.T d) Set.univ none (Prog.op (.customCall (Pipeline.entry (0 : Fin 1)) ()) .ret) Q
  have h := Pipeline.RegionSeg.wp (pcfgs (F := F)) adm (pdats lim (Vin m)) none cellOf_inj EPr defs₀ 𝒱₀ (K (F := F)).L (K (F := F)).lev
    (reg lim (Vin m)) d none (fun _ h => nomatch h) .ret Q
  iintro ⟨Hk, Hb, Hpre, Hlev, Hg, Htk⟩
  iapply hl
  iapply h
  isplitl [Hk]
  · iintro ⟨Hb, Hpost⟩
    rw [wp_ret]; imodintro
    iapply Hk
    isplitl [Hb]; · iexact Hb
    iapply (Entails.of_eq (show (reg lim (Vin m)).post d = iprop(unscopedBufs d (Vout m d) ∗ owesBelow (F := F) lim d) from rfl))
    iexact Hpost
  isplitl [Hb]; · iexact Hb
  isplitl [Hpre]
  · iapply (Entails.of_eq (show iprop(unscopedBufs d (Vin m d) ∗ owesBelow (F := F) lim d) = (reg lim (Vin m)).pre d from rfl))
    iexact Hpre
  isplitl [Hlev]; · iexact Hlev
  isplitl [Hg]; · iexact Hg
  iexact Htk

theorem unscoped_V3 (d : Dev nD) :
    (held (SparseCore.T d) (ucRefs τ sig) ((opBias (F := F)).result (V2 m d)) : sProp 𝕄) = unscopedBufs d (Vin m d) :=
  (unscopedBufs_held (Ix := HIx 1) (Name := ℕ) (U := UU) (Lvl := ℕ) d (V3 m d)).symm

theorem hmain [∀ e, Nonempty (Elt F e)] (κ : GSem nD τ sig → ℕ) (d : Dev nD) :
    iprop((K (F := F)).ctx EH (P (lists m) (table m) (blank m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, HG⟩
  ihave Hheld := (Entails.of_eq (unscoped_held m d)) $$ Hub
  -- the lists reshaped
  iapply (wp_hlo_within 𝒱 (SparseCore.T d) none Set.univ (op := opLists) (S := ucRefs τ sig) (sub_ucRefs _ (StableHlo.reshape_bufs_sub _ _ _ _ _ _)) (V := V0 m d)) $$ [Hb Hheld]
  · isplitl [Hb]; · iexact Hb
    iexact Hheld
  iintro ⟨Hb, Hheld⟩
  rw [wp_ret]; imodintro
  ihave Hh := (Entails.of_eq (held_V1 m d)) $$ Hheld
  icases Hh with ⟨H3, Hrest⟩
  ihave H3 := (Entails.of_eq ((held_S3 d (V1 m d)).trans (operands_halves d (lists m d) (table m d) (blank m d)))) $$ H3
  ihave Hrest := (Entails.of_eq (held_rest m d)) $$ Hrest
  -- the rows pooled
  iapply ((K (F := F)).wp_run (D (F := F)) 𝒱 (EH := EH) (P := P (lists m) (table m) (blank m)) κ d 0) $$ [Hst H3 Hb Hrest Hts HG]
  isplitr; · iexact Hctx
  isplitl [Hst]; · iexact Hst
  isplitl [H3]; · iexact H3
  iintro ⟨Hst, Hdn⟩
  ihave H3 := (Entails.of_eq (dn0 m d)) $$ Hdn
  -- the bias reshaped
  iapply (wp_hlo_within 𝒱 (SparseCore.T d) none Set.univ (op := opBias) (S := ucRefs τ sig) (sub_ucRefs _ (StableHlo.reshape_bufs_sub _ _ _ _ _ _)) (V := V2 m d)) $$ [Hb H3 Hrest]
  · isplitl [Hb]; · iexact Hb
    iapply (Entails.of_eq (held_sub d (V2 m d)).symm)
    isplitl [H3]
    · iapply (Entails.of_eq (held_S3 d (V2 m d)).symm)
      rw [V2_t, V2_b, V2_o]
      iexact H3
    iexact Hrest
  iintro ⟨Hb, Hheld⟩
  rw [wp_ret]; imodintro
  ihave Hub := (Entails.of_eq (unscoped_V3 m d)) $$ Hheld
  -- the matrix call
  ihave Hst := (Entails.of_eq (show (K (F := F)).tcSt EH d ((0 : Fin 1).val + 1) = (K (F := F)).tcSt EH d 1 from rfl)) $$ Hst
  unfold SparseCore.Cfg.tcSt
  simp only [Otc_one]
  icases Hst with ⟨HO, Hst⟩
  ihave Hlev := (SparseCore.Cfg.ctx_levAts κ) $$ Hctx
  iapply (matrix_call m d (8 * Blocks.fst (Q := 1) (N := 1) 1) _) $$ [Hb Hub HO Hlev HG Hst Hts]
  isplitl [Hst Hts]
  · iintro ⟨Hb, Hub, HO⟩
    imodintro
    isplitl [HO Hst]; · isplitl [HO] <;> iassumption
    isplitl [Hub]; · iexact Hub
    isplitl [Hb] <;> iassumption
  isplitl [Hb]; · iexact Hb
  isplitl [Hub HO]; · isplitl [Hub] <;> iassumption
  isplitl [Hlev]; · iexact Hlev
  iexact HG

end Cert.Proof.Launch

end
-- ==== Proof.Run.lean ====
/-
  The kernel's program from a launch memory whose words all name rows of the table: it returns on every thread, its
  arguments as they were, its result the linear layer of the pooled rows, every semaphore at zero.
-/
module

public import proofs.«01_k».proof.Proof.Main

@[expose] public section

noncomputable section

namespace Cert.Proof.Launch

open Cert.KernelIdeal Cert.KernelIdeal.Gen

open Idealize.ShloMosaic
open Idealize.ShloMosaic.TcCoe
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ### The launch's own state -/

/-- The handshakes' rounds, the pipeline's rounds, the transfers' counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_none {I : Type} (s : Finset I) : (bigSep s fun _ => iprop(emp)) = (iprop(emp) : sProp 𝕄) := bigSep_emp_const s

theorem hu₀ (tx : Dev nD → S32x128x80.Idx → BitVec 32) (tb : Dev nD → S100000x128.Idx → F .f32) (g : Dev nD → S16384x128.Idx → F .f32) :
    (ownU (u₀ (F := F)) : sProp 𝕄)
      ⊢ |={Set.univ}=> iprop(BI.own (EH (initOf (K (F := F)).hsCells (K (F := F)).hsToks)) ∗ (bigSep Finset.univ fun d : Dev nD => G d)
          ∗ bigSep Finset.univ fun thr : Thread nD τ => bigSep Finset.univ fun q : Fin 1 => (P tx tb g).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EPr cellOf_inj) $$ HP with ⟨Hg, Ht⟩
  imodintro
  isplitl [HH]; · iexact HH
  isplitl [Hg Ht]
  · rw [bigSep_sep']
    isplitl [Hg]
    · iapply (Entails.of_eq (bigSep_congr fun _ _ => bigSep_univ_of_subsingleton (0 : Fin 1))) $$ Hg
    · iapply (Entails.of_eq (bigSep_congr fun _ _ => bigSep_univ_of_subsingleton (0 : Fin 1))) $$ Ht
  rw [show (bigSep Finset.univ fun thr : Thread nD τ => bigSep Finset.univ fun q : Fin 1 => (P tx tb g).x q thr) = bigSep Finset.univ fun _ => iprop(emp) from
    bigSep_congr fun _ _ => bigSep_univ_of_subsingleton (0 : Fin 1), bigSep_none]
  iempintro

/-! ### What the final memory holds -/

/-- The four arguments and the result. -/
def fq (d : Dev nD) (s' : Phys nD τ sig (Elt F)) : Prop :=
  s'.mem.mem ((d : Thread nD τ).loc main_arg0) = Vout m d main_arg0 ∧ s'.mem.mem ((d : Thread nD τ).loc main_arg1) = Vout m d main_arg1
    ∧ s'.mem.mem ((d : Thread nD τ).loc main_arg2) = Vout m d main_arg2 ∧ s'.mem.mem ((d : Thread nD τ).loc main_arg3) = Vout m d main_arg3
    ∧ s'.mem.mem ((d : Thread nD τ).loc main_v3) = Vout m d main_v3

/-- An unscoped buffer's contents at the end are those it is held at. -/
theorem read_buf (d : Dev nD) (s' : Phys nD τ sig (Elt F)) (b : Ref sig .tc) (hb : ¬ b.isScoped) :
    iprop(FIN m d ∗ SI s') ⊢ (⌜s'.mem.mem ((d : Thread nD τ).loc b) = Vout m d b⌝ : sProp 𝕄) := by
  have h : FIN m d ⊢ ((d : Thread nD τ).loc b ↦{fullShare} Vout m d b : sProp 𝕄) := by
    unfold FIN unscopedBufs
    exact bigSep_elim (Finset.mem_filter.mpr ⟨Finset.mem_univ b, hb⟩)
  iintro ⟨Hx, HSI⟩
  ihave Hx := h $$ Hx
  ihave H := (SI_pointsTo_agree (st := s') (ℓ := (d : Thread nD τ).loc b) (I := Finset.univ) (q := fullShare) (f := Vout m d b)) $$ [HSI Hx]
  · isplitl [HSI] <;> iassumption
  icases H with %hx
  ipureintro; exact funext fun i => hx i (Finset.mem_univ i)

/-- Two facts that follow follow together. -/
theorem both {A : sProp 𝕄} {φ ψ : Prop} (h₁ : A ⊢ ⌜φ⌝) (h₂ : A ⊢ ⌜ψ⌝) : A ⊢ ⌜φ ∧ ψ⌝ := by
  iintro H
  ihave H := (persistent_entails_right h₁) $$ H
  icases H with ⟨%hφ, H⟩
  ihave H := h₂ $$ H
  icases H with %hψ
  ipureintro; exact ⟨hφ, hψ⟩

theorem hfin (d : Dev nD) (s' : Phys nD τ sig (Elt F)) : iprop(FIN m d ∗ SI s') ⊢ (⌜fq m d s'⌝ : sProp 𝕄) :=
  both (read_buf m d s' main_arg0 (by decide)) (both (read_buf m d s' main_arg1 (by decide)) (both (read_buf m d s' main_arg2 (by decide))
    (both (read_buf m d s' main_arg3 (by decide)) (read_buf m d s' main_v3 (by decide)))))

/-! ### The last contents, from the launch's -/

theorem Vin_of (d : Dev nD) (b : Ref sig .tc) (h0 : b ≠ main_v0) (h1 : b ≠ main_v1) (h2 : b ≠ main_v2) : Vin m d b = m ((d : Thread nD τ).loc b) := by
  have e3 : V3 m d (Proc.devRef .tc b) = V2 m d (Proc.devRef .tc b) := StableHlo.reshape_result_ne _ _ _ _ _ _ _ h2
  have e2 : V2 m d (Proc.devRef .tc b) = V1 m d (Proc.devRef .tc b) := Function.update_of_ne (StableHlo.devRef_ne_of_ne h1) _ _
  have e1 : V1 m d (Proc.devRef .tc b) = V0 m d (Proc.devRef .tc b) := StableHlo.reshape_result_ne _ _ _ _ _ _ _ h0
  exact e3.trans (e2.trans e1)

/-- The result: the linear layer of the pooled rows. -/
abbrev result (d : Dev nD) : S16384x1024.Idx → F .f32 :=
  linear (pooled (lists m d) (m ((d : Thread nD τ).loc main_arg1))) (m ((d : Thread nD τ).loc main_arg2)) (Vin m d main_v2)

theorem table_eq (d : Dev nD) : table m d = m ((d : Thread nD τ).loc main_arg1) := StableHlo.reshape_result_ne _ _ _ _ _ _ _ (by decide)

theorem Vout_out (d : Dev nD) : Vout m d main_v3 = result m d := by
  rw [Vout, after_out, Vin_of m d main_arg2 (by decide) (by decide) (by decide)]
  have e : Vin m d main_v1 = pooled (lists m d) (table m d) := (StableHlo.reshape_result_ne _ _ _ _ _ _ _ (by decide)).trans (V2_o m d)
  rw [e, table_eq]

/-- Every word of the lists is one of the launch's. -/
theorem lists_lt (d : Dev nD) (h : ∀ j, (m ((d : Thread nD τ).loc main_arg0) j : BitVec 32).toNat < 100000) (j : S32x128x80.Idx) : (lists m d j).toNat < 100000 := by
  have e : lists m d = _ := StableHlo.reshape_result' (x := main_arg0) (y := main_v0) _ _ _ _ (V0 m d)
  rw [e]
  exact h _

/-! ### The run -/

/-- What every run ends at. -/
def QC : PUnit × MemSt nD τ sig (Elt F) → Prop := fun r =>
  (∀ d : Dev nD, r.2.mem ((d : Thread nD τ).loc main_v3) = result m d
    ∧ r.2.mem ((d : Thread nD τ).loc main_arg0) = m ((d : Thread nD τ).loc main_arg0) ∧ r.2.mem ((d : Thread nD τ).loc main_arg1) = m ((d : Thread nD τ).loc main_arg1)
    ∧ r.2.mem ((d : Thread nD τ).loc main_arg2) = m ((d : Thread nD τ).loc main_arg2) ∧ r.2.mem ((d : Thread nD τ).loc main_arg3) = m ((d : Thread nD τ).loc main_arg3))
  ∧ r.2.sem = fun _ => 0

theorem QC_of (r : MemSt nD τ sig (Elt F)) (st : Phys nD τ sig (Elt F)) (e : st.mem = r) (h : ∀ d, fq m d st) (hz : r.sem = fun _ => 0) : QC m (⟨⟩, r) := by
  subst e
  refine ⟨fun d => ?_, hz⟩
  obtain ⟨h0, h1, h2, h3, h4⟩ := h d
  have ha (b : Ref sig .tc) (n0 : b ≠ main_v0) (n1 : b ≠ main_v1) (n2 : b ≠ main_v2) (n3 : b ≠ main_v3) : Vout m d b = m ((d : Thread nD τ).loc b) :=
    (after_ne _ d b n3).trans (Vin_of m d b n0 n1 n2)
  exact ⟨h4.trans (Vout_out m d), h0.trans (ha _ (by decide) (by decide) (by decide) (by decide)), h1.trans (ha _ (by decide) (by decide) (by decide) (by decide)),
    h2.trans (ha _ (by decide) (by decide) (by decide) (by decide)), h3.trans (ha _ (by decide) (by decide) (by decide) (by decide))⟩

theorem run_main [∀ e, Nonempty (Elt F e)] (hm : ∀ (d : Dev nD) j, (m ((d : Thread nD τ).loc main_arg0) j : BitVec 32).toNat < 100000) :
    θ_run (defs (F := F)) (threads (F := F)) ⟨m, fun _ => 0, ρ⟩ (QC m) :=
  SparseCore.Cfg.θ_run_sc_quiescent (K := K (F := F)) (D := D (F := F)) (𝒱 := 𝒱) (EH := EH) (P := P (lists m) (table m) (blank m)) (A := ∅) facts v₀
    (fun q hq => match q with | 0 => nomatch hq)
    (fun q _ => match q with | 0 => tileObl (lists m) (table m) (blank m) fun d j => lists_lt m d (hm d) j)
    (fun q _ => match q with | 0 => SparseCore.Cfg.VecSplit.of_plain (vecSplit (lists m) (table m) (blank m)))
    m ρ main (fun d => G d) (FIN m) (u₀ (F := F)) (sep_elim_left.trans (hu₀ (lists m) (table m) (blank m))) (hmain m ρ) (fq m) (hfin m) (QC m)
    (fun s' h hz => QC_of m s'.mem s' rfl h hz)

end Cert.Proof.Launch

end
-- ==== Proof.Words.lean ====
/-
  What the precondition says of the words: each, read as an unsigned number, is below 100000, the number of the
  table's rows.
-/
module

public import proofs.«01_k».proof.Defs
public import proofs.«01_k».proof.Proof.Gen.Pre_tokens_in_vocab
public import Idealize.ShloMosaic.Lib.ReduceAll

@[expose] public section

noncomputable section

namespace Cert.Proof

open Idealize.ShloMosaic Cert.Pre_tokens_in_vocab Cert.Pre_tokens_in_vocab.Gen

/-- A word that is at least 0 and less than 100000, compared as a signed number, has an unsigned value below 100000. -/
theorem word_lt {v : BitVec 32} (e : IntOp.andi (IntOp.cmpi .sge v 0#32) (IntOp.cmpi .slt v 100000#32) = 1#1) : v.toNat < 100000 := by
  obtain ⟨h0, h1⟩ := IntOp.andi_eq_one.1 e
  have h0' := IntOp.cmpi_sge.1 h0
  have h1' := IntOp.cmpi_slt.1 h1
  simp only [BitVec.toInt_eq_toNat_cond, BitVec.toNat_ofNat, Nat.reducePow, Nat.reduceMod, Nat.reduceMul] at h0' h1'
  split_ifs at h0' h1' <;> omega

variable {F : FTy → Type} [FloatOps F]

/-- The precondition's value is true only if every word of its first array is below 100000. -/
theorem words_lt (x : IVec S16384x20 32) (tb : FVec F S100000x128 .f32) (w : FVec F S1024x128 .f32) (b : FVec F S1024 .f32)
    (h : fn x tb w b = fun _ => 1#1) (j : S16384x20.Idx) : (x j).toNat < 100000 :=
  word_lt (Host.reduce_andi_all _ _ _ _ (fun a => a.elim0) (congrFun h _) j)

end Cert.Proof

end
-- ==== Proof.Frames.lean ====
/-
  The two frames of the kernel: over the machine's floats and over the extended reals, from a launch memory that the
  precondition admits.
-/
module

public import proofs.«01_k».proof.Proof.Run
public import proofs.«01_k».proof.Proof.Words
public import proofs.«01_k».proof.Proof.Gen.Kernel

@[expose] public section

noncomputable section

namespace Cert.Proof

open Idealize.ShloMosaic Idealize.ShloMosaic.TcCoe Idealize.SL.Sem Cert.Proof.Launch

/-- The idealized kernel returns from every admitted memory, with its arguments unchanged and every semaphore at zero. -/
theorem frame_ideal : Cert.quiescent_KernelIdeal := fun m ρ hpre =>
  (θ_run Cert.KernelIdeal.defs _ _).mono (fun _ h => ⟨fun c => (h.1 c).2, h.2⟩)
    (run_main (F := Ideal) m ρ fun d => words_lt _ _ _ _ (hpre d))

/-- A constant's name read as the pattern that the kernel prints for it. -/
local instance literal : Named Bits := ⟨fun _ _ _ bits => FloatOps.ofBits _ bits⟩

/-- The printed kernel's bodies are the idealized program's, the pattern in the place of the name. -/
theorem bodies_eq : Cert.Kernel.defs₀ (F := Bits) = Cert.KernelIdeal.defs₀ (F := Bits) := by
  funext p ℓ a
  match p, ℓ, a with
  | .tc, 0, _ => rfl
  | .tc, 1, (_, _) => rfl
  | .scScalar _, 0, _ => rfl
  | .scScalar _, 1, _ => rfl
  | .scVector _ _, 0, _ => rfl
  | .scVector _ _, 1, _ => rfl

/-- So the two tables of bodies, with the region's and the SparseCore call's, are one. -/
theorem defs_eq : Cert.Kernel.defs (F := Bits) = Cert.KernelIdeal.defs (F := Bits) := by
  unfold Cert.Kernel.defs Cert.KernelIdeal.defs
  rw [bodies_eq]
  rfl

/-- The two programs' threads are one. -/
theorem threads_eq : Cert.Kernel.threads (F := Bits) = Cert.KernelIdeal.threads (F := Bits) := rfl

/-- The kernel as printed returns from every admitted memory, with its arguments unchanged and every semaphore at
    zero. -/
theorem frame_bits : Cert.quiescent_Kernel := fun m ρ hpre => by
  rw [defs_eq]
  exact (θ_run (Cert.KernelIdeal.defs (F := Bits)) (Cert.KernelIdeal.threads (F := Bits)) _).mono (fun _ h => ⟨fun c => (h.1 c).2, h.2⟩)
    (run_main (F := Bits) m ρ fun d => words_lt _ _ _ _ (hpre d))

end Cert.Proof

end
-- ==== Proof.Reference.lean ====
/-
  The reference's run: one straight line of StableHLO operations, `jnp.take`'s among them, whose result is one
  term of the four arguments.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Reference

open Idealize.ShloMosaic Idealize.ShloMosaic.TcCoe Idealize.ShloMosaic.StableHlo Idealize.SL.Sem
open Cert.ReferenceIdeal Cert.ReferenceIdeal.Gen

variable {F : FTy → Type} [FloatOps F]

/-! ### The result as a term of the arguments -/

/-- The row that each word names: a negative word counts from the table's end. -/
def wrapped (x : IVec S16384x20 32) : IVec S16384x20x1 32 :=
  broadcastInDim S16384x20x1 ![0, 1] bcast_S16384x20_S16384x20x1_0_1
    (select (cmpi .slt x (broadcastInDim S16384x20 ![] bcast_S_S16384x20 (constantI S_ 32 0#32)))
      (addi x (broadcastInDim S16384x20 ![] bcast_S_S16384x20 (constantI S_ 32 100000#32))) x)

/-- Whether that row is one of the table's. -/
def inside (x : IVec S16384x20 32) : IVec S16384x20 1 :=
  Host.reduce IntOp.andi
    (andi (cmpi .sge (wrapped x) (broadcastInDim S16384x20x1 ![] bcast_S_S16384x20x1 (constantI S_ 32 0#32)))
      (cmpi .sle (wrapped x) (broadcastInDim S16384x20x1 ![0, 1, 2] bcast_S1x1x1_S16384x20x1_0_1_2
        (broadcastInDim S1x1x1 ![2] bcast_S1_S1x1x1_2 (constantI S1 32 99999#32)))))
    (constantI S_ 1 1#1) reducesTo_S16384x20x1_S16384x20_d2 h_S_

/-- The table's rows at the words, and a NaN where the word names no row. -/
def taken (x : IVec S16384x20 32) (tb : FVec F S100000x128 .f32) : FVec F S16384x20x128 .f32 :=
  select (broadcastInDim S16384x20x128 ![0, 1] bcast_S16384x20_S16384x20x128_0_1 (inside x))
    (Host.gather gather_S100000x128_S16384x20x1_S16384x20x128_2_0_n_n_0_2_1128 tb (wrapped x))
    (broadcastInDim S16384x20x128 ![] bcast_S_S16384x20x128 (constant S_ .f32 0x7FC00000#32))

/-- Their mean over each row's twenty words. -/
def mean (x : IVec S16384x20 32) (tb : FVec F S100000x128 .f32) : FVec F S16384x128 .f32 :=
  Host.divf (Host.reduceAdd (taken x tb) (constant S_ .f32 0x00000000#32) reducesTo_S16384x20x128_S16384x128_d1 h_S_)
    (broadcastInDim S16384x128 ![] bcast_S_S16384x128 (constant S_ .f32 0x41A00000#32))

/-- The linear layer of the means. -/
def out (x : IVec S16384x20 32) (tb : FVec F S100000x128 .f32) (w : FVec F S1024x128 .f32) (b : FVec F S1024 .f32) : FVec F S16384x1024 .f32 :=
  addf
    (Host.dotGeneral dot_S16384x128_S128x1024_S16384x1024_1_0_0_1_n_n none (mean x tb)
      (transpose S128x1024 [1, 0] w transposes_S1024x128_S128x1024_1_0))
    (broadcastInDim S16384x1024 ![0, 1] bcast_S1x1024_S16384x1024_0_1 (broadcastInDim S1x1024 ![1] bcast_S1024_S1x1024_1 b))

/-! ### The run -/

/-- The operations in order: `jnp.take`'s twenty-three, then the mean, the product and the bias. -/
abbrev ops : List (HloOp τ sig (Elt F)) :=
  [ TRef.nullary main_call0.c (constantI S_ 32 0#32),
    TRef.unary main_call0.c main_call0.v0 (broadcastInDim S16384x20 ![] bcast_S_S16384x20),
    TRef.binary (.of main_arg0) main_call0.v0 main_call0.v1 (cmpi .slt),
    TRef.nullary main_call0.c_0 (constantI S_ 32 100000#32),
    TRef.unary main_call0.c_0 main_call0.v2 (broadcastInDim S16384x20 ![] bcast_S_S16384x20),
    TRef.binary (.of main_arg0) main_call0.v2 main_call0.v3 addi,
    TRef.ternary main_call0.v1 main_call0.v3 (.of main_arg0) main_call0.call0.v0 select,
    TRef.unary main_call0.call0.v0 main_call0.v5 (broadcastInDim S16384x20x1 ![0, 1] bcast_S16384x20_S16384x20x1_0_1),
    TRef.nullary main_call0.c_1 (constantI S1 32 99999#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg1) main_call0.v5 main_call0.v13
      (fun x i => Host.gather gather_S100000x128_S16384x20x1_S16384x20x128_2_0_n_n_0_2_1128 x i),
    TRef.unary main_call0.v12 main_call0.v14 (broadcastInDim S16384x20x128 ![0, 1] bcast_S16384x20_S16384x20x128_0_1),
    TRef.nullary main_call0.cst (constant S_ .f32 0x7FC00000#32),
    TRef.unary main_call0.cst main_call0.v15 (broadcastInDim S16384x20x128 ![] bcast_S_S16384x20x128),
    TRef.ternary main_call0.v14 main_call0.v13 main_call0.v15 main_call0.v16 select,
    nullary main_cst (constant S_ .f32 0x00000000#32),
    binary main_v0 main_cst main_v1
      ((fun x v => Host.reduceAdd x v reducesTo_S16384x20x128_S16384x128_d1 h_S_) :
        (⟨S16384x20x128, .f32⟩ : BufTy).Contents (Elt F) → (⟨S_, .f32⟩ : BufTy).Contents (Elt F) → (⟨S16384x128, .f32⟩ : BufTy).Contents (Elt F)),
    nullary main_cst_0 (constant S_ .f32 0x41A00000#32),
    unary main_cst_0 main_v2
      (broadcastInDim S16384x128 ![] bcast_S_S16384x128 : (⟨S_, .f32⟩ : BufTy).Contents (Elt F) → (⟨S16384x128, .f32⟩ : BufTy).Contents (Elt F)),
    binary main_v1 main_v2 main_v3
      (Host.divf : (⟨S16384x128, .f32⟩ : BufTy).Contents (Elt F) → (⟨S16384x128, .f32⟩ : BufTy).Contents (Elt F) → (⟨S16384x128, .f32⟩ : BufTy).Contents (Elt F)),
    unary main_arg2 main_v4
      ((transpose S128x1024 [1, 0] · transposes_S1024x128_S128x1024_1_0) :
        (⟨S1024x128, .f32⟩ : BufTy).Contents (Elt F) → (⟨S128x1024, .f32⟩ : BufTy).Contents (Elt F)),
    binary main_v3 main_v4 main_v5
      ((fun l r => Host.dotGeneral dot_S16384x128_S128x1024_S16384x1024_1_0_0_1_n_n none l r) :
        (⟨S16384x128, .f32⟩ : BufTy).Contents (Elt F) → (⟨S128x1024, .f32⟩ : BufTy).Contents (Elt F) → (⟨S16384x1024, .f32⟩ : BufTy).Contents (Elt F)),
    unary main_arg3 main_v6
      (broadcastInDim S1x1024 ![1] bcast_S1024_S1x1024_1 : (⟨S1024, .f32⟩ : BufTy).Contents (Elt F) → (⟨S1x1024, .f32⟩ : BufTy).Contents (Elt F)),
    unary main_v6 main_v7
      (broadcastInDim S16384x1024 ![0, 1] bcast_S1x1024_S16384x1024_0_1 :
        (⟨S1x1024, .f32⟩ : BufTy).Contents (Elt F) → (⟨S16384x1024, .f32⟩ : BufTy).Contents (Elt F)),
    binary main_v5 main_v7 main_v8
      (addf : (⟨S16384x1024, .f32⟩ : BufTy).Contents (Elt F) → (⟨S16384x1024, .f32⟩ : BufTy).Contents (Elt F) → (⟨S16384x1024, .f32⟩ : BufTy).Contents (Elt F)) ]

/-- The reference's main is that straight line. -/
theorem main_eq (c : Dev nD) : main (F := F) c = seq ops := by
  simp only [main, fn_take.body, fn_where.body, seq, bind_assoc, pure_bind]

/-- The rows' buffer, written at its own type, holds what was written. -/
theorem rows_as (h1 h2 h3) (v : FVec F S16384x20x128 .f32) :
    (TRef.of (sig := sig) (T := ⟨S16384x20x128, .f32⟩) main_v0 h1 h2 h3).toBuf (Val := Elt F) v = v := rfl

/-- The result's buffer ends at `out` of the arguments' buffers. -/
theorem out_eq (V : Valuation τ sig (Elt F)) :
    after ops V (main_v8 : DevRef τ sig)
      = out (V (main_arg0 : DevRef τ sig)) (V (main_arg1 : DevRef τ sig)) (V (main_arg2 : DevRef τ sig)) (V (main_arg3 : DevRef τ sig)) := by
  after_results_simp
  simp only [TRef.ofBuf_toBuf, rows_as]
  unfold out mean taken inside wrapped
  rfl

/-- No operation writes the words. -/
theorem arg0_eq (V : Valuation τ sig (Elt F)) : after ops V (main_arg0 : DevRef τ sig) = V (main_arg0 : DevRef τ sig) := by
  simp only [after_cons, after_nil]; rfl

/-- No operation writes the table. -/
theorem arg1_eq (V : Valuation τ sig (Elt F)) : after ops V (main_arg1 : DevRef τ sig) = V (main_arg1 : DevRef τ sig) := by
  simp only [after_cons, after_nil]; rfl

/-- No operation writes the weights. -/
theorem arg2_eq (V : Valuation τ sig (Elt F)) : after ops V (main_arg2 : DevRef τ sig) = V (main_arg2 : DevRef τ sig) := by
  simp only [after_cons, after_nil]; rfl

/-- No operation writes the bias. -/
theorem arg3_eq (V : Valuation τ sig (Elt F)) : after ops V (main_arg3 : DevRef τ sig) = V (main_arg3 : DevRef τ sig) := by
  simp only [after_cons, after_nil]; rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the TensorCore. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub ..⟩

/-- The reference returns from every memory, its result's array at `out` of its arguments and they unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = out (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v8).trans (out_eq _), (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

/-- The reference's frame; it has no semaphore. -/
theorem frame : Cert.quiescent_ReferenceIdeal := fun m ρ _ =>
  (θ_run Cert.ReferenceIdeal.defs _ _).mono
    (fun r h => ⟨fun c => (h c).2, Idealize.ShloMosaic.sem_eq_zero_of_no_sems (by decide) r.2⟩) (run (F := Ideal) m ρ)

/-- The same from the memories that the precondition admits. -/
theorem frame_pre [Cert.Pre_tokens_in_vocab.Facts] : Cert.quiescent_ReferenceIdeal_pre_tokens_in_vocab := fun m ρ _ => frame m ρ trivial

end Cert.Proof.Reference

end
-- ==== Proof.Layer.lean ====
/-
  What the program computes, at the reals: the mean of a sentence's word rows through a linear layer with a bias.
-/
module

public import Idealize.ShloMosaic.PureOps.Ideal.Laws
public import Idealize.ShloMosaic.Lib.ValueIdxCore

@[expose] public section

noncomputable section

namespace Cert.Proof

open Idealize.ShloMosaic Idealize.ShloMosaic.ValueIdx
open scoped BigOperators

/-- The layer's entry at row `r`, class `c`: the sum over the columns of the sentence's summed rows times a twentieth
    times the weight, plus the bias; `word r l` is the table's row for word `l` of sentence `r`. -/
def layer (word : Fin 16384 → Fin 20 → Fin 100000) (tb : (⟨2, ![100000, 128]⟩ : Shape).Idx → EReal)
    (w : (⟨2, ![1024, 128]⟩ : Shape).Idx → EReal) (b : (⟨1, ![1024]⟩ : Shape).Idx → EReal) (r : Fin 16384) (c : Fin 1024) : EReal :=
  (∑ k : Fin 128, ((∑ l : Fin 20, tb (ix2 (word r l) k)) * ((20⁻¹ : ℝ) : EReal)) * w (ix2 c k)) + b (ix1 c)

end Cert.Proof

end
-- ==== Proof.KernelValue.lean ====
/-
  The kernel's result at the reals, entry by entry: the tiles' pooled rows through the matrix call are the layer.
-/
module

public import proofs.«01_k».proof.Proof.Run
public import proofs.«01_k».proof.Proof.Layer
public import Idealize.ShloMosaic.Lib.MatmulPlain
public import Idealize.ShloMosaic.Lib.Pipeline.Value

@[expose] public section

noncomputable section

namespace Cert.Proof.Launch

open Cert.KernelIdeal Cert.KernelIdeal.Gen

open Idealize.ShloMosaic
open Idealize.ShloMosaic.TcCoe
open Idealize.ShloMosaic.ValueIdx
open scoped BigOperators

/-- At the reals the tile's sum from the left is the sum of the twenty. -/
theorem sum20_eq (g : Fin 20 → EReal) : sum20 (F := Ideal) g 19 (by decide) = ∑ l, g l := by
  have e : ∀ (n : ℕ) (h : n < 20), sum20 (F := Ideal) g n h = ∑ l : Fin (n + 1), g ⟨l.val, by omega⟩ := by
    intro n
    induction n with
    | zero => intro h; rw [Fin.sum_univ_one]; rfl
    | succ n ih =>
      intro h
      rw [Fin.sum_univ_castSucc]
      exact congrArg (· + g ⟨n + 1, h⟩) (ih (by omega))
  exact e 19 (by decide)

/-- The named constant is a twentieth. -/
theorem twentieth : (Named.named Cert.KernelIdeal.κ "inv_seq" (φ := .f32) 0x3D4CCCCD#32 : Ideal .f32) = ((20⁻¹ : ℝ) : EReal) :=
  IdealRules.named_const.ideal_named_scalar _ _ _ _ rfl

/-- The matrix call's arithmetic at row `r` of a block, class `c`. -/
theorem block_at (x : Vec Ideal S256x128 .f32) (w : Vec Ideal S1024x128 .f32) (b : Vec Ideal S1x1024 .f32) (r : Fin 256) (c : Fin 1024) :
    k1_pay1 x w b (ix2 r c) = (∑ k : Fin 128, (x (ix2 r k) * ((20⁻¹ : ℝ) : EReal)) * w (ix2 c k)) + b (ix2 (0 : Fin 1) c) := by
  unfold k1_pay1
  rw [shapeCast_self, shapeCast_self]
  refine congrArg₂ (· + ·) ?_ (broadcastTo_apply _ _ _ (ix2 (0 : Fin 1) c) fun a => ?_)
  · refine (Ideal.matmul_transposedRhs_apply (M := 256) (K := 128) (N := 1024) none _ _ _ r c).trans ?_
    refine (congrArg (· + _) Ideal.ofBits_zero_f32).trans ((zero_add _).trans (Finset.sum_congr rfl fun k _ => ?_))
    exact congrArg (fun t : EReal => (x (ix2 r k) * t) * w (ix2 c k)) twentieth
  · match a with
    | ⟨0, _⟩ => rfl
    | ⟨1, _⟩ => rfl

/-- The linear layer at row `r` is its block's arithmetic. -/
theorem linear_at (x : S16384x128.Idx → Ideal .f32) (w : Vec Ideal S1024x128 .f32) (b : Vec Ideal S1x1024 .f32) (r : Fin 16384) (c : Fin 1024) :
    linear x w b (ix2 r c) = (∑ k : Fin 128, (x (ix2 r k) * ((20⁻¹ : ℝ) : EReal)) * w (ix2 c k)) + b (ix2 (0 : Fin 1) c) := by
  have e : linear x w b (ix2 r c) = k1_pay1 (rowBlock x ⟨r.val / 256, by omega⟩) w b (ix2 (⟨r.val % 256, by omega⟩ : Fin 256) c) :=
    congrArg (k1_pay1 (rowBlock x ⟨r.val / 256, by omega⟩) w b) (funext fun a => by
      match a with
      | ⟨0, _⟩ => rfl
      | ⟨1, _⟩ => rfl)
  have ex (k : Fin 128) : rowBlock x ⟨r.val / 256, by omega⟩ (ix2 (⟨r.val % 256, by omega⟩ : Fin 256) k) = x (ix2 r k) :=
    congrArg x (funext fun a => by
      match a with
      | ⟨0, _⟩ => exact Fin.ext (show 256 * (r.val / 256) + r.val % 256 = r.val by omega)
      | ⟨1, _⟩ => rfl)
  rw [e, block_at]
  simp only [ex]

/-- A pooled row is the sum of its twenty rows of the table. -/
theorem pooled_at (tx : S32x128x80.Idx → BitVec 32) (tb : S100000x128.Idx → Ideal .f32) (r : Fin 16384) (k : Fin 128) :
    pooled tx tb (ix2 r k) = ∑ l : Fin 20,
      tb (Tile.tabIx (tx (Tile.textIx ⟨r.val / 512, by omega⟩ ⟨r.val % 512 / 4, by omega⟩ ⟨20 * (r.val % 4) + l.val, by omega⟩)) k) :=
  sum20_eq _

variable (m : (ℓ : Loc nD τ sig) → Buf (Elt Ideal) ℓ)

/-- The lists are the token array, row by row. -/
theorem lists_at (d : Dev nD) (r : Fin 16384) (l : Fin 20) :
    lists m d (Tile.textIx ⟨r.val / 512, by omega⟩ ⟨r.val % 512 / 4, by omega⟩ ⟨20 * (r.val % 4) + l.val, by omega⟩)
      = m ((d : Thread nD τ).loc main_arg0) (ix2 r l) := by
  have e : lists m d = shapeCast S32x128x80 (m ((d : Thread nD τ).loc main_arg0)) shapeCasts_S16384x20_S32x128x80 :=
    StableHlo.reshape_result' (x := main_arg0) (y := main_v0) rfl shapeCasts_S16384x20_S32x128x80 (by decide) (by decide) (V0 m d)
  rw [e]
  refine shapeCast_apply _ _ _ (ix2 r l) ?_
  rw [Shape.rowMajor_val_two, Shape.rowMajor_val_three]
  show r.val * 20 + l.val = (r.val / 512 * 128 + r.val % 512 / 4) * 80 + (20 * (r.val % 4) + l.val)
  omega

/-- The bias as the matrix call reads it. -/
theorem bias_at (d : Dev nD) (c : Fin 1024) :
    Vin m d main_v2 (ix2 (0 : Fin 1) c) = m ((d : Thread nD τ).loc main_arg3) (ix1 c) := by
  have e : Vin m d main_v2 = shapeCast S1x1024 (V2 m d (Proc.devRef .tc (main_arg3 : Ref sig .tc))) shapeCasts_S1024_S1x1024 :=
    StableHlo.reshape_result' (x := main_arg3) (y := main_v2) rfl shapeCasts_S1024_S1x1024 (by decide) (by decide) (V2 m d)
  have e3 : V2 m d (Proc.devRef .tc (main_arg3 : Ref sig .tc)) = m ((d : Thread nD τ).loc main_arg3) :=
    (Function.update_of_ne (show (Proc.devRef .tc (main_arg3 : Ref sig .tc) : DevRef τ sig) ≠ o' by decide) _ _).trans
      (StableHlo.reshape_result_ne _ _ _ _ _ _ _ (by decide))
  rw [e, e3]
  refine shapeCast_apply _ _ _ (ix1 c) ?_
  rw [Shape.rowMajor_val_one, Shape.rowMajor_val_two]
  show c.val = 0 * 1024 + c.val
  omega

/-- The kernel's result is the layer's. -/
theorem result_at (d : Dev nD) (h : ∀ j, (m ((d : Thread nD τ).loc main_arg0) j).toNat < 100000) (r : Fin 16384) (c : Fin 1024) :
    result m d (ix2 r c)
      = layer (fun r l => ⟨(m ((d : Thread nD τ).loc main_arg0) (ix2 r l)).toNat, h _⟩) (m ((d : Thread nD τ).loc main_arg1))
          (m ((d : Thread nD τ).loc main_arg2)) (m ((d : Thread nD τ).loc main_arg3)) r c := by
  unfold result layer
  rw [linear_at, bias_at m d c]
  refine congrArg (· + _) (Finset.sum_congr rfl fun k _ => congrArg (fun t : EReal => (t * ((20⁻¹ : ℝ) : EReal)) * _) ?_)
  rw [pooled_at]
  refine Finset.sum_congr rfl fun l _ => ?_
  rw [lists_at m d r l]
  refine congrArg (m ((d : Thread nD τ).loc main_arg1)) (funext fun a => ?_)
  match a with
  | ⟨0, _⟩ =>
    have hj := h (ix2 r l)
    exact Fin.ext (Nat.min_eq_left (by omega))
  | ⟨1, _⟩ => rfl

end Cert.Proof.Launch

end
-- ==== Proof.TakeValue.lean ====
/-
  What `jnp.take` returns where every word names a row of the table: word `l` of sentence `r` gives that row.
-/
module

public import proofs.«01_k».proof.Proof.Reference
public import Idealize.ShloMosaic.Lib.ReduceAll
public import Idealize.ShloMosaic.Lib.WordCmp
public import Idealize.ShloMosaic.Lib.ValueIdxCore
public import Idealize.ShloMosaic.Lib.Pipeline.Value
public import Idealize.ShloMosaic.Lib.Pointwise

@[expose] public section

noncomputable section

namespace Cert.Proof.Reference

open Idealize.ShloMosaic hiding ix2 ix3
open Idealize.ShloMosaic.ValueIdx
open Cert.ReferenceIdeal Cert.ReferenceIdeal.Gen

variable {F : FTy → Type} [FloatOps F]

/-- The gather read at row `r`, word `l`, column `k`: the table's row at the word, clamped to the table. -/
theorem gather_at (tb : FVec F S100000x128 .f32) (idx : IVec S16384x20x1 32) (r : Fin 16384) (l : Fin 20) (k : Fin 128) :
    Host.gather gather_S100000x128_S16384x20x1_S16384x20x128_2_0_n_n_0_2_1128 tb idx (ix3 r l k)
      = tb (ix2 (⟨min (idx (ix3 r l (0 : Fin 1))).toInt.toNat 99999, by omega⟩ : Fin 100000) k) := by
  unfold Host.gather
  congr 1
  funext a
  refine Fin.ext ?_
  match a with
  | ⟨0, _⟩ =>
    show GatherDims.start _ (ix3 r l k) idx 0 + GatherDims.batchCoord _ (ix3 r l k) 0 + GatherDims.offCoord _ (ix3 r l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x20x1_S16384x20x128_2_0_n_n_0_2_1128.startIndexMap from
      List.mem_singleton.mpr rfl)]
    have hsi : gather_S100000x128_S16384x20x1_S16384x20x128_2_0_n_n_0_2_1128.siIdx (ix3 r l k)
        ⟨List.idxOf (0 : Fin 2) [0], List.idxOf_lt_length_iff.2 (List.mem_singleton.mpr rfl)⟩ = ix3 r l (0 : Fin 1) := by
      funext b
      refine Fin.ext ?_
      match b with
      | ⟨0, _⟩ => rfl
      | ⟨1, _⟩ => rfl
      | ⟨2, _⟩ => rfl
    exact congrArg (fun v => min (idx v).toInt.toNat 99999) hsi
  | ⟨1, _⟩ =>
    show GatherDims.start _ (ix3 r l k) idx 1 + GatherDims.batchCoord _ (ix3 r l k) 1 + GatherDims.offCoord _ (ix3 r l k) 1 = _
    rw [GatherDims.batchCoord_eq_zero _ _ _ List.not_mem_nil]
    unfold GatherDims.start
    rw [dif_neg (by decide)]
    simp only [Nat.add_zero, Nat.zero_add]
    rfl

variable {x : IVec S16384x20 32}

/-- A word below 100000 names its own row. -/
theorem wrapped_at {r : Fin 16384} {l : Fin 20} (h : (x (ix2 r l)).toNat < 100000) : wrapped x (ix3 r l (0 : Fin 1)) = x (ix2 r l) := by
  unfold wrapped
  rw [broadcastInDim_apply _ _ _ _ (ix2 r l) (fun a => by
    match a with
    | ⟨0, _⟩ => rfl
    | ⟨1, _⟩ => rfl)]
  have e : IntOp.cmpi .slt (x (ix2 r l)) 0#32 = 0#1 := by
    rw [WordCmp.cmpi_slt_zero, decide_eq_false (by omega)]; rfl
  show Scalar.select (IntOp.cmpi .slt (x (ix2 r l)) 0#32) _ (x (ix2 r l)) = _
  rw [e]
  rfl

/-- Such a row is one of the table's. -/
theorem inside_at (h : ∀ j, (x j).toNat < 100000) (j : S16384x20.Idx) : inside x j = 1#1 := by
  refine Host.reduce_andi_one _ _ _ _ j rfl fun i => ?_
  obtain ⟨r, l, z, rfl⟩ : ∃ r l z, i = ix3 (n0 := 16384) (n1 := 20) (n2 := 1) r l z := ⟨i 0, i 1, i 2, funext fun a => by
    match a with
    | ⟨0, _⟩ => rfl
    | ⟨1, _⟩ => rfl
    | ⟨2, _⟩ => rfl⟩
  obtain rfl : z = 0 := Subsingleton.elim _ _
  have e := wrapped_at (h (ix2 r l))
  have hx := h (ix2 r l)
  refine IntOp.andi_eq_one.2 ⟨?_, ?_⟩
  · show IntOp.cmpi .sge (wrapped x (ix3 r l (0 : Fin 1))) 0#32 = 1#1
    rw [e, WordCmp.cmpi_sge_zero, decide_eq_true (by omega)]; rfl
  · show IntOp.cmpi .sle (wrapped x (ix3 r l (0 : Fin 1))) 99999#32 = 1#1
    rw [e, WordCmp.cmpi_sle_of_lt (by omega) (by decide), decide_eq_true (by show _ ≤ 99999; omega)]; rfl

/-- So `jnp.take` reads the table's row that the word names. -/
theorem taken_at (h : ∀ j, (x j).toNat < 100000) (tb : FVec F S100000x128 .f32) (r : Fin 16384) (l : Fin 20) (k : Fin 128) :
    taken x tb (ix3 r l k) = tb (ix2 (⟨(x (ix2 r l)).toNat, h _⟩ : Fin 100000) k) := by
  have hx := h (ix2 r l)
  have e : broadcastInDim S16384x20x128 ![0, 1] bcast_S16384x20_S16384x20x128_0_1 (inside x) (ix3 r l k) = 1#1 := inside_at h _
  unfold taken
  rw [select_apply, e, WordCmp.select_one, gather_at]
  refine congrArg (fun n : Fin 100000 => tb (ix2 n k)) (Fin.ext ?_)
  show min (wrapped x (ix3 r l (0 : Fin 1))).toInt.toNat 99999 = (x (ix2 r l)).toNat
  rw [wrapped_at hx, BitVec.toInt_eq_toNat_of_lt (by omega), Int.toNat_natCast]
  omega

end Cert.Proof.Reference

end
-- ==== Proof.ReferenceValue.lean ====
/-
  The reference's result at the reals, entry by entry: the mean of a sentence's rows, times the weights, plus the bias.
-/
module

public import proofs.«01_k».proof.Proof.TakeValue
public import proofs.«01_k».proof.Proof.Layer
public import Idealize.ShloMosaic.Lib.MatmulPlain
public import Idealize.ShloMosaic.Lib.KernelVsHost

@[expose] public section

noncomputable section

namespace Cert.Proof

open Idealize.ShloMosaic hiding ix1 ix2 ix3
open Idealize.ShloMosaic.ValueIdx
open scoped BigOperators

namespace Reference

open Cert.ReferenceIdeal Cert.ReferenceIdeal.Gen

/-- The word that the reference divides by is twenty. -/
theorem twenty : Ideal.ofBits .f32 0x41A00000#32 = ((20 : ℝ) : EReal) := by
  simp [Ideal.ofBits, Ideal.ieee, -EReal.coe_mul]
  norm_num

variable {x : IVec S16384x20 32} (h : ∀ j, (x j).toNat < 100000) (tb : FVec Ideal S100000x128 .f32)
  (w : FVec Ideal S1024x128 .f32) (b : FVec Ideal S1024 .f32)

include h in
/-- The mean over a sentence: its twenty rows summed, times a twentieth. -/
theorem mean_at (r : Fin 16384) (k : Fin 128) :
    mean x tb (ix2 r k) = (∑ l : Fin 20, tb (ix2 (⟨(x (ix2 r l)).toNat, h _⟩ : Fin 100000) k)) * ((20⁻¹ : ℝ) : EReal) := by
  show Ideal.div (Ideal.hostReduceAdd reducesTo_S16384x20x128_S16384x128_d1 (taken x tb) (Ideal.ofBits .f32 0x00000000#32) (ix2 r k))
    (Ideal.ofBits .f32 0x41A00000#32) = _
  rw [twenty, Ideal.div_coe (by norm_num), Ideal.hostReduceAdd_r3_a1, Ideal.ofBits_zero_f32, zero_add, one_div]
  exact congrArg (· * ((20⁻¹ : ℝ) : EReal)) (Finset.sum_congr rfl fun l _ => taken_at h tb r l k)

/-- The reference's result is the layer's. -/
theorem out_at (r : Fin 16384) (c : Fin 1024) :
    out x tb w b (ix2 r c) = layer (fun r l => ⟨(x (ix2 r l)).toNat, h _⟩) tb w b r c := by
  unfold out layer
  have eb : broadcastInDim S16384x1024 ![0, 1] bcast_S1x1024_S16384x1024_0_1 (broadcastInDim S1x1024 ![1] bcast_S1024_S1x1024_1 b) (ix2 r c)
      = b (ix1 c) := by
    rw [broadcastInDim_apply _ _ _ _ (ix2 (0 : Fin 1) c) (fun a => by
      match a with
      | ⟨0, _⟩ => rfl
      | ⟨1, _⟩ => rfl), broadcastInDim_apply _ _ _ _ (ix1 c) (fun a => by
      match a with
      | ⟨0, _⟩ => rfl)]
  refine congrArg₂ (· + ·) ?_ eb
  rw [← matmul_zero_eq_dotGeneral]
  refine (Ideal.matmul_plain_apply (M := 16384) (K := 128) (N := 1024) none (mean x tb) _ _ r c).trans ?_
  refine (congrArg (· + _) Ideal.ofBits_zero_f32).trans ((zero_add _).trans (Finset.sum_congr rfl fun k _ => ?_))
  refine congrArg₂ (· * ·) (mean_at h tb r k) (transpose_apply _ _ _ _ (ix2 c k) fun a => ?_)
  match a with
  | ⟨0, _⟩ => rfl
  | ⟨1, _⟩ => rfl

end Reference

end Cert.Proof

end
-- ==== Proof.Claims.lean ====
/-
  The two claims about values: the idealized kernel's one named constant, and its result against the reference's.
-/
module

public import proofs.«01_k».proof.Proof.Frames
public import proofs.«01_k».proof.Proof.KernelValue
public import proofs.«01_k».proof.Proof.ReferenceValue

@[expose] public section

noncomputable section

namespace Cert.Proof

open Idealize.ShloMosaic Idealize.SL.Sem
open Idealize.ShloMosaic.TcCoe

/-- The idealized kernel differs from the kernel in one constant, which reads as a twentieth at the reals. -/
theorem preserves : Cert.preserves_Kernel_KernelIdeal :=
  IdealRules.named_const.statement Cert.KernelIdeal.κ "inv_seq" .f32 0x3D4CCCCD#32 ((20⁻¹ : ℝ) : EReal) rfl

/-- On words below 100000 the reference's result is the kernel's: both are the layer, entry by entry. -/
theorem out_result (m : (ℓ : Loc Cert.KernelIdeal.nD Cert.KernelIdeal.τ Cert.KernelIdeal.sig) → Buf (Elt Ideal) ℓ) (c : Dev Cert.KernelIdeal.nD)
    (h : ∀ j, (m ((c : Thread Cert.KernelIdeal.nD Cert.KernelIdeal.τ).loc Cert.KernelIdeal.main_arg0) j).toNat < 100000) :
    Reference.out (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) = Launch.result m c := by
  funext i
  rw [ValueIdx.eq_ix2 (n0 := 16384) (n1 := 1024) i]
  exact (Reference.out_at h _ _ _ (i 0) (i 1)).trans (Launch.result_at m c h (i 0) (i 1)).symm

/-- At the reals the kernel and the reference, from arguments that agree and words below 100000, end with one result. -/
theorem algebraic : Cert.algebraic_KernelIdeal_ReferenceIdeal := by
  intro m g m' g' hpre hagree
  have hw (d : Dev Cert.KernelIdeal.nD) := words_lt _ _ _ _ (hpre d)
  refine ⟨fun c => Launch.result m c, (θ_run Cert.KernelIdeal.defs _ _).mono (fun _ h c => h.1 c) (Launch.run_main (F := Ideal) m g hw), ?_⟩
  refine (θ_run Cert.ReferenceIdeal.defs _ _).mono (fun _ h c => ⟨(h c).1.trans ?_, (h c).2⟩) (Reference.run (F := Ideal) m' g')
  obtain ⟨h0, h1, h2, h3⟩ := hagree c
  rw [h0, h1, h2, h3]
  exact out_result m c (hw c)

end Cert.Proof

end
-- ==== Proof.lean ====
/-
  The certificate: the frames of the three programs, the idealized kernel's ledger, and the equality of the kernel's
  result with the reference's, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens_in_vocab
public import proofs.«01_k».proof.Proof.Frames
public import proofs.«01_k».proof.Proof.Reference
public import proofs.«01_k».proof.Proof.Claims

@[expose] public section

noncomputable section

namespace Cert.Proof

/-- Everything that the certificate claims. -/
theorem claim : Cert.Claim := ⟨Cert.Kernel.Gen.facts, Cert.KernelIdeal.Gen.facts, Cert.ReferenceIdeal.Gen.facts, Cert.Pre_tokens_in_vocab.Gen.facts,
  frame_bits, frame_ideal, Reference.frame, Reference.frame_pre, preserves, algebraic⟩

end Cert.Proof

end
